-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![4, 256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S4x16x4x64x32x128 : Shape := ⟨6, ![4, 16, 4, 64, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x16x4x64x32x128 : S_.BroadcastsInDim S4x16x4x64x32x128 (![] : Fin 0 → Fin S4x16x4x64x32x128.rank)
  reducesTo_S4x16x4x64x32x128_S_d0_1_2_3_4_5 : S4x16x4x64x32x128.ReducesTo [0, 1, 2, 3, 4, 5] S_

variable [Facts]

def fn {F : FTy → Type} [FloatOps F] (main_arg0 : FVec F S1x256x1024 .f32) (main_arg1 : FVec F S1024x1024 .f32) (main_arg2 : FVec F S4x16x4x64x32x128 .f32) (main_arg3 : FVec F S4x16x4x64x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x16x4x64x32x128 .f32 := Host.absf main_arg2
  let main_cst_2 : FVec F S_ .f32 := constant S_ .f32 0x7F800000#32
  let main_v10 : FVec F S4x16x4x64x32x128 .f32 := broadcastInDim S4x16x4x64x32x128 ![] bcast_S_S4x16x4x64x32x128 main_cst_2
  let main_v11 : IVec S4x16x4x64x32x128 1 := cmpf .olt main_v9 main_v10
  let main_c_3 : IVec S_ 1 := constantI S_ 1 1#1
  let main_v12 : IVec S_ 1 := (fun x v => Host.reduce IntOp.andi x v reducesTo_S4x16x4x64x32x128_S_d0_1_2_3_4_5 h_S_) main_v11 main_c_3
  let main_v13 : IVec S_ 1 := andi main_v8 main_v12
  main_v13
-- ==== Pre_finite_scores_ReferenceIdeal.lean ====
abbrev S4x256x1024 : Shape := ⟨3, ![4, 256, 1024]⟩
abbrev S1024x4096 : Shape := ⟨2, ![1024, 4096]⟩
abbrev S4x16x4x64x32x128 : Shape := ⟨6, ![4, 16, 4, 64, 32, 128]⟩
abbrev S4096x1024 : Shape := ⟨2, ![4096, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x16x4x64x32x128 : S_.BroadcastsInDim S4x16x4x64x32x128 (![] : Fin 0 → Fin S4x16x4x64x32x128.rank)
  reducesTo_S4x16x4x64x32x128_S_d0_1_2_3_4_5 : S4x16x4x64x32x128.ReducesTo [0, 1, 2, 3, 4, 5] S_

variable [Facts]

def fn {F : FTy → Type} [FloatOps F] (main_arg0 : FVec F S4x256x1024 .f32) (main_arg1 : FVec F S1024x4096 .f32) (main_arg2 : FVec F S4x16x4x64x32x128 .f32) (main_arg3 : FVec F S4x16x4x64x32x128 .f32) (main_arg4 : FVec F S4096x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x16x4x64x32x128 .f32 := Host.absf main_arg2
  let main_cst_2 : FVec F S_ .f32 := constant S_ .f32 0x7F800000#32
  let main_v10 : FVec F S4x16x4x64x32x128 .f32 := broadcastInDim S4x16x4x64x32x128 ![] bcast_S_S4x16x4x64x32x128 main_cst_2
  let main_v11 : IVec S4x16x4x64x32x128 1 := cmpf .olt main_v9 main_v10
  let main_c_3 : IVec S_ 1 := constantI S_ 1 1#1
  let main_v12 : IVec S_ 1 := (fun x v => Host.reduce IntOp.andi x v reducesTo_S4x16x4x64x32x128_S_d0_1_2_3_4_5 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S4x16x4x64x32x128 : Shape := ⟨6, ![4, 16, 4, 64, 32, 128]⟩
abbrev S4x256x1024 : Shape := ⟨3, ![4, 256, 1024]⟩
abbrev S256x1024 : Shape := ⟨2, ![256, 1024]⟩
abbrev S2x16x64x8x128 : Shape := ⟨5, ![2, 16, 64, 8, 128]⟩
abbrev S64x1024 : Shape := ⟨2, ![64, 1024]⟩
abbrev S3x256x1024 : Shape := ⟨3, ![3, 256, 1024]⟩
abbrev S3 : Shape := ⟨1, ![3]⟩
abbrev S2 : Shape := ⟨1, ![2]⟩
abbrev S_ : Shape := ⟨0, ![]⟩
abbrev S1 : Shape := ⟨1, ![1]⟩
abbrev S1x16x64x8x128 : Shape := ⟨5, ![1, 16, 64, 8, 128]⟩
abbrev S16x64x8x128 : Shape := ⟨4, ![16, 64, 8, 128]⟩
abbrev S1x16x1x64x8x128 : Shape := ⟨6, ![1, 16, 1, 64, 8, 128]⟩
abbrev S1024x128 : Shape := ⟨2, ![1024, 128]⟩
abbrev S64x128 : Shape := ⟨2, ![64, 128]⟩
abbrev S64 : Shape := ⟨1, ![64]⟩
abbrev S64x1 : Shape := ⟨2, ![64, 1]⟩
abbrev S1x64x1024 : Shape := ⟨3, ![1, 64, 1024]⟩

abbrev nBuf : Space → Nat
  | .hbm => 6
  | .vmem => 15
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S4x16x4x64x32x128, .f32⟩
  | .hbm, ⟨3, _⟩ => ⟨S4x16x4x64x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x1024, .bf16⟩
  | .local _ .vmem, ⟨8, _⟩ => ⟨S2x16x64x8x128, .f32⟩
  | .local _ .vmem, ⟨9, _⟩ => ⟨S2x16x64x8x128, .f32⟩
  | .local _ .vmem, ⟨10, _⟩ => ⟨S1024x1024, .bf16⟩
  | .local _ .vmem, ⟨11, _⟩ => ⟨S1024x1024, .bf16⟩
  | .local _ .vmem, ⟨12, _⟩ => ⟨S64x1024, .bf16⟩
  | .local _ .vmem, ⟨13, _⟩ => ⟨S4x256x1024, .f32⟩
  | .local _ .vmem, ⟨14, _⟩ => ⟨S3x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v10 : BitVec 32 := Scalar.muli v7 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v12 : BitVec 32 := Scalar.muli v4 c1_i32_8
  let v13 : BitVec 32 := Scalar.addi c0_i32_9 v12
  v13.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : Index := Scalar.indexCast v2
  let c0_12 : Index := 0#32
  let c0_13 : Index := 0#32
  ![v17.toNat, 0, 0]
def k0_off2 (d0 : Dev nD) (c4_i32_14 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : BitVec 32 := Scalar.addi v2 c4_i32_14
  let c4_i32_15 : BitVec 32 := 4#32
  let v22 : BitVec 32 := Scalar.remsi v21 c4_i32_15
  let c0_i32_20 : BitVec 32 := 0#32
  let c0_i32_21 : BitVec 32 := 0#32
  ![v22.toNat, 0, 0]
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_18 : BitVec 32 := 1#32
  let v23 : BitVec 32 := Scalar.muli v4 c1_i32_18
  let v24 : BitVec 32 := Scalar.addi c0_i32_19 v23
  v24.toNat
def k0_off3 (d0 : Dev nD) (c4_i32_24 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.addi v2 c4_i32_24
  let c4_i32_25 : BitVec 32 := 4#32
  let v32 : BitVec 32 := Scalar.remsi v31 c4_i32_25
  let c0_i32_33 : BitVec 32 := 0#32
  let c0_i32_26 : BitVec 32 := 0#32
  let c0_i32_34 : BitVec 32 := 0#32
  let c8_i32 : BitVec 32 := 8#32
  let v8 : BitVec 32 := Scalar.muli v2 c8_i32
  let c0_i32_35 : BitVec 32 := 0#32
  ![v32.toNat, 0, 0, 0, v8.toNat, 0]
def k0_off4 (d0 : Dev nD) (c4_i32_46 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c4_i32_46
  let c4_i32_47 : BitVec 32 := 4#32
  let v46 : BitVec 32 := Scalar.remsi v45 c4_i32_47
  let c0_i32_55 : BitVec 32 := 0#32
  let c1_i32_48 : BitVec 32 := 1#32
  let c0_i32_56 : BitVec 32 := 0#32
  let c8_i32 : BitVec 32 := 8#32
  let v8 : BitVec 32 := Scalar.muli v2 c8_i32
  let c0_i32_57 : BitVec 32 := 0#32
  ![v46.toNat, 0, 1, 0, v8.toNat, 0]
def k0_off5 (d0 : Dev nD) (c4_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c4_i32_76
  let c4_i32_77 : BitVec 32 := 4#32
  let v72 : BitVec 32 := Scalar.remsi v71 c4_i32_77
  let v73 : Index := Scalar.indexCast v72
  let c0_78 : Index := 0#32
  let c0_79 : Index := 0#32
  ![v73.toNat, 0, 0]
def k0_off6 (d0 : Dev nD) (c4_i32_119 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v110 : BitVec 32 := Scalar.addi v2 c4_i32_119
  let c4_i32_120 : BitVec 32 := 4#32
  let v111 : BitVec 32 := Scalar.remsi v110 c4_i32_120
  let c0_i32_128 : BitVec 32 := 0#32
  let c2_i32_121 : BitVec 32 := 2#32
  let c0_i32_129 : BitVec 32 := 0#32
  let c8_i32 : BitVec 32 := 8#32
  let v8 : BitVec 32 := Scalar.muli v2 c8_i32
  let c0_i32_130 : BitVec 32 := 0#32
  ![v111.toNat, 0, 2, 0, v8.toNat, 0]
def k0_off7 (d0 : Dev nD) (c4_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c4_i32_76
  let c4_i32_77 : BitVec 32 := 4#32
  let v72 : BitVec 32 := Scalar.remsi v71 c4_i32_77
  let v264 : Index := Scalar.indexCast v72
  let c0_235 : Index := 0#32
  let c0_236 : Index := 0#32
  ![v264.toNat, 0, 0]
def k0_off8 (d0 : Dev nD) (c4_i32_270 : BitVec 32) : Fin 6 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v294 : BitVec 32 := Scalar.addi v2 c4_i32_270
  let c4_i32_271 : BitVec 32 := 4#32
  let v295 : BitVec 32 := Scalar.remsi v294 c4_i32_271
  let c0_i32_278 : BitVec 32 := 0#32
  let c3_i32 : BitVec 32 := 3#32
  let c0_i32_279 : BitVec 32 := 0#32
  let c8_i32 : BitVec 32 := 8#32
  let v8 : BitVec 32 := Scalar.muli v2 c8_i32
  let c0_i32_280 : BitVec 32 := 0#32
  ![v295.toNat, 0, 3, 0, v8.toNat, 0]
def k0_off9 (d0 : Dev nD) (c4_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c4_i32_76
  let c4_i32_77 : BitVec 32 := 4#32
  let v72 : BitVec 32 := Scalar.remsi v71 c4_i32_77
  let v448 : Index := Scalar.indexCast v72
  let c64_391 : Index := 64#32
  let c0_392 : Index := 0#32
  ![v448.toNat, 64, 0]
def k0_off10 (d0 : Dev nD) (c4_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c4_i32_76
  let c4_i32_77 : BitVec 32 := 4#32
  let v72 : BitVec 32 := Scalar.remsi v71 c4_i32_77
  let v632 : Index := Scalar.indexCast v72
  let c128_550 : Index := 128#32
  let c0_551 : Index := 0#32
  ![v632.toNat, 128, 0]
def k0_off11 (d0 : Dev nD) (c4_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c4_i32_76
  let c4_i32_77 : BitVec 32 := 4#32
  let v72 : BitVec 32 := Scalar.remsi v71 c4_i32_77
  let v816 : Index := Scalar.indexCast v72
  let c192_708 : Index := 192#32
  let c0_709 : Index := 0#32
  ![v816.toNat, 192, 0]
def k0_dev4 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_729 : BitVec 32 := 1#32
  let v832 : BitVec 32 := Scalar.muli v4 c1_i32_729
  let v833 : BitVec 32 := Scalar.addi c0_i32_730 v832
  v833.toNat
def k0_dev5 (d0 : Dev nD) : Nat :=
  let c0_i32_1386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1385 : BitVec 32 := 1#32
  let v1591 : BitVec 32 := Scalar.muli v4 c1_i32_1385
  let v1592 : BitVec 32 := Scalar.addi c0_i32_1386 v1591
  v1592.toNat
def k0_dev6 (d0 : Dev nD) : Nat :=
  let c0_i32_1412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1411 : BitVec 32 := 1#32
  let v1611 : BitVec 32 := Scalar.muli v4 c1_i32_1411
  let v1612 : BitVec 32 := Scalar.addi c0_i32_1412 v1611
  v1612.toNat
def k0_dev7 (d0 : Dev nD) : Nat :=
  let c0_i32_2094 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2093 : BitVec 32 := 1#32
  let v2390 : BitVec 32 := Scalar.muli v4 c1_i32_2093
  let v2391 : BitVec 32 := Scalar.addi c0_i32_2094 v2390
  v2391.toNat
def k0_dev8 (d0 : Dev nD) : Nat :=
  let c0_i32_2748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2747 : BitVec 32 := 1#32
  let v3151 : BitVec 32 := Scalar.muli v4 c1_i32_2747
  let v3152 : BitVec 32 := Scalar.addi c0_i32_2748 v3151
  v3152.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4x16x4x64x32x128 : Shape := ⟨6, ![4, 16, 4, 64, 32, 128]⟩
abbrev S4096x1024 : Shape := ⟨2, ![4096, 1024]⟩
abbrev S4x4096x32x128 : Shape := ⟨4, ![4, 4096, 32, 128]⟩
abbrev S4x256x4096 : Shape := ⟨3, ![4, 256, 4096]⟩
abbrev S4x256x32x128 : Shape := ⟨4, ![4, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S4x32x256x4096 : Shape := ⟨4, ![4, 32, 256, 4096]⟩
abbrev S1x1x256x4096 : Shape := ⟨4, ![1, 1, 256, 4096]⟩
abbrev S4x32x256 : Shape := ⟨3, ![4, 32, 256]⟩
abbrev S4x32x256x1 : Shape := ⟨4, ![4, 32, 256, 1]⟩
abbrev S1x1x256x1 : Shape := ⟨4, ![1, 1, 256, 1]⟩
abbrev S4x32x128x256 : Shape := ⟨4, ![4, 32, 128, 256]⟩

abbrev nBuf : Space → Nat
  | .hbm => 139
  | .vmem => 0
  | .smem => 0
  | _ => 0

abbrev hbmTy0_0 (i : Nat) : BufTy := match i % 128 with
  | 0 => ⟨S4x256x1024, .f32⟩
  | 1 => ⟨S1024x4096, .f32⟩
  | 2 => ⟨S4x16x4x64x32x128, .f32⟩
  | 3 => ⟨S4x16x4x64x32x128, .f32⟩
  | 4 => ⟨S4096x1024, .f32⟩
  | 5 => ⟨S4x4096x32x128, .f32⟩
  | 6 => ⟨S4x4096x32x128, .f32⟩
  | 7 => ⟨S4x256x4096, .f32⟩
  | 8 => ⟨S4x256x32x128, .f32⟩
  | 9 => ⟨S256, .i32⟩
  | 10 => ⟨S_, .i32⟩
  | 11 => ⟨S_, .i32⟩
  | 12 => ⟨S256, .i32⟩
  | 13 => ⟨S256, .i32⟩
  | 14 => ⟨S256, .i32⟩
  | 15 => ⟨S_, .i32⟩
  | 16 => ⟨S256, .i32⟩
  | 17 => ⟨S256, .i1⟩
  | 18 => ⟨S256, .i32⟩
  | 19 => ⟨S256, .i32⟩
  | 20 => ⟨S_, .i32⟩
  | 21 => ⟨S256, .i32⟩
  | 22 => ⟨S256, .i1⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S4096, .i32⟩
  | 30 => ⟨S_, .i32⟩
  | 31 => ⟨S_, .i32⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S4096, .i32⟩
  | 39 => ⟨S4096, .i32⟩
  | 40 => ⟨S_, .i32⟩
  | 41 => ⟨S4096, .i32⟩
  | 42 => ⟨S4096, .i1⟩
  | 43 => ⟨S4096, .i1⟩
  | 44 => ⟨S_, .i32⟩
  | 45 => ⟨S4096, .i32⟩
  | 46 => ⟨S4096, .i32⟩
  | 47 => ⟨S4096, .i32⟩
  | 48 => ⟨S1x4096, .i32⟩
  | 49 => ⟨S256x4096, .i32⟩
  | 50 => ⟨S256x4096, .i32⟩
  | 51 => ⟨S256x4096, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x4096, .i32⟩
  | 59 => ⟨S1x4096, .i32⟩
  | 60 => ⟨S_, .i32⟩
  | 61 => ⟨S1x4096, .i32⟩
  | 62 => ⟨S1x4096, .i1⟩
  | 63 => ⟨S_, .i32⟩
  | 64 => ⟨S1x4096, .i32⟩
  | 65 => ⟨S1x4096, .i1⟩
  | 66 => ⟨S_, .i32⟩
  | 67 => ⟨S_, .i1⟩
  | 68 => ⟨S1x4096, .i1⟩
  | 69 => ⟨S1x4096, .i1⟩
  | 70 => ⟨S1x4096, .i1⟩
  | 71 => ⟨S1x4096, .i32⟩
  | 72 => ⟨S1x4096, .i32⟩
  | 73 => ⟨S1x4096, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S256x1, .i32⟩
  | 81 => ⟨S256x1, .i32⟩
  | 82 => ⟨S_, .i32⟩
  | 83 => ⟨S256x1, .i32⟩
  | 84 => ⟨S256x1, .i1⟩
  | 85 => ⟨S_, .i32⟩
  | 86 => ⟨S256x1, .i32⟩
  | 87 => ⟨S256x1, .i1⟩
  | 88 => ⟨S_, .i32⟩
  | 89 => ⟨S_, .i1⟩
  | 90 => ⟨S256x1, .i1⟩
  | 91 => ⟨S256x1, .i1⟩
  | 92 => ⟨S256x1, .i1⟩
  | 93 => ⟨S256x1, .i32⟩
  | 94 => ⟨S256x1, .i32⟩
  | 95 => ⟨S256x1, .i32⟩
  | 96 => ⟨S256x4096, .i32⟩
  | 97 => ⟨S256x4096, .i32⟩
  | 98 => ⟨S256x4096, .i1⟩
  | 99 => ⟨S256x4096, .i1⟩
  | 100 => ⟨S4x32x256x4096, .f32⟩
  | 101 => ⟨S_, .f32⟩
  | 102 => ⟨S4x32x256x4096, .f32⟩
  | 103 => ⟨S4x32x256x4096, .f32⟩
  | 104 => ⟨S1x1x256x4096, .i1⟩
  | 105 => ⟨S_, .f32⟩
  | 106 => ⟨S_, .f32⟩
  | 107 => ⟨S4x32x256x4096, .i1⟩
  | 108 => ⟨S4x32x256x4096, .f32⟩
  | 109 => ⟨S4x32x256x4096, .f32⟩
  | 110 => ⟨S_, .f32⟩
  | 111 => ⟨S4x32x256, .f32⟩
  | 112 => ⟨S4x32x256x1, .f32⟩
  | 113 => ⟨S4x32x256x4096, .f32⟩
  | 114 => ⟨S4x32x256x4096, .f32⟩
  | 115 => ⟨S4x32x256x4096, .f32⟩
  | 116 => ⟨S_, .i1⟩
  | 117 => ⟨S256, .i1⟩
  | 118 => ⟨S1x1x256x1, .i1⟩
  | 119 => ⟨S_, .f32⟩
  | 120 => ⟨S4x32x256, .f32⟩
  | 121 => ⟨S4x32x256x1, .f32⟩
  | 122 => ⟨S_, .f32⟩
  | 123 => ⟨S_, .f32⟩
  | 124 => ⟨S4x32x256x1, .i1⟩
  | 125 => ⟨S4x32x256x1, .f32⟩
  | 126 => ⟨S4x32x256x1, .f32⟩
  | 127 => ⟨S4x32x256x4096, .f32⟩
  | _ => ⟨S4x256x1024, .f32⟩

abbrev hbmTy0_1 (i : Nat) : BufTy := match i % 128 with
  | 0 => ⟨S4x32x256x4096, .f32⟩
  | 1 => ⟨S1x1x256x1, .i1⟩
  | 2 => ⟨S_, .f32⟩
  | 3 => ⟨S_, .f32⟩
  | 4 => ⟨S4x32x256x4096, .i1⟩
  | 5 => ⟨S4x32x256x4096, .f32⟩
  | 6 => ⟨S4x32x256x4096, .f32⟩
  | 7 => ⟨S4x32x128x256, .f32⟩
  | 8 => ⟨S4x256x32x128, .f32⟩
  | 9 => ⟨S4x256x4096, .f32⟩
  | 10 => ⟨S4x256x1024, .f32⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Plan.lean ====
module

public import proofs.«01_k».proof.Proof.Gen.KernelIdeal.Skeleton
public import Idealize.ShloMosaic.Lib.Tactic

/-!
# The kernel's body, in the steps it is written in

The printed body is cut into windows of sixty statements. Here it is put together from the steps
of the kernel's text: a block of keys fetched, one head's attention, one stage, one batch, one hop
of either ring. `body_eq` says that this is the printed body.
-/

@[expose] public section

noncomputable section

namespace Cert.KernelIdeal.Att

open Idealize.ShloMosaic Idealize.SL.Sem Cert.KernelIdeal.Gen

variable {F : FTy → Type} [FloatOps F]

/-- A program of the core over this kernel's memory. -/
abbrev TP (F : FTy → Type) : Type → Type 1 := Prog (TpuEff nD τ sig (Elt F) Λ₀ .tc)

/-! ## The buffers -/

abbrev xIn : Memref sig .tc .vmem S1x256x1024 .f32 := Memref.whole cc0_stg0_0
abbrev wqIn : Memref sig .tc .vmem S1024x1024 .f32 := Memref.whole cc0_stg1_0
abbrev kHbm : Memref sig .tc .hbm S4x16x4x64x32x128 .f32 := Memref.whole main_arg2
abbrev vHbm : Memref sig .tc .hbm S4x16x4x64x32x128 .f32 := Memref.whole main_arg3
abbrev woIn : Memref sig .tc .vmem S1024x1024 .f32 := Memref.whole cc0_stg2_0
abbrev outB : Memref sig .tc .vmem S1x256x1024 .f32 := Memref.whole cc0_stg3_0
abbrev xAll : Memref sig .tc .vmem S4x256x1024 .bf16 := Memref.whole cc0_scratch0
abbrev wqB : Memref sig .tc .vmem S1024x1024 .bf16 := Memref.whole cc0_scratch1
abbrev woB : Memref sig .tc .vmem S1024x1024 .bf16 := Memref.whole cc0_scratch2
abbrev qB : Memref sig .tc .vmem S256x1024 .bf16 := Memref.whole cc0_scratch3
abbrev kSt : Memref sig .tc .vmem S2x16x64x8x128 .f32 := Memref.whole cc0_scratch4
abbrev vSt : Memref sig .tc .vmem S2x16x64x8x128 .f32 := Memref.whole cc0_scratch5
abbrev kB : Memref sig .tc .vmem S1024x1024 .bf16 := Memref.whole cc0_scratch6
abbrev vB : Memref sig .tc .vmem S1024x1024 .bf16 := Memref.whole cc0_scratch7
abbrev cB : Memref sig .tc .vmem S64x1024 .bf16 := Memref.whole cc0_scratch8
abbrev accB : Memref sig .tc .vmem S4x256x1024 .f32 := Memref.whole cc0_scratch9
abbrev rsB : Memref sig .tc .vmem S3x256x1024 .f32 := Memref.whole cc0_scratch10

/-! ## Views of them -/

theorem slot_inb : ∀ s : Fin 2, ∀ a, (![s.val, 0, 0, 0, 0] : Fin 5 → Nat) a + S1x16x64x8x128.size a ≤ S2x16x64x8x128.size a := by decide +kernel
theorem two_inb : ∀ s : Fin 2, ∀ a, (![s.val] : Fin 1 → Nat) a + S1.size a ≤ S2.size a := by decide +kernel
theorem three_inb : ∀ s : Fin 3, ∀ a, (![s.val] : Fin 1 → Nat) a + S1.size a ≤ S3.size a := by decide +kernel
theorem rs_inb : ∀ s : Fin 3, ∀ a, (![s.val, 0, 0] : Fin 3 → Nat) a + S1x256x1024.size a ≤ S3x256x1024.size a := by decide +kernel
theorem col_inb : ∀ h : Fin 8, ∀ a, (![0, 128 * h.val] : Fin 2 → Nat) a + S1024x128.size a ≤ S1024x1024.size a := by decide +kernel
theorem ctx_inb : ∀ h : Fin 8, ∀ a, (![0, 128 * h.val] : Fin 2 → Nat) a + S64x128.size a ≤ S64x1024.size a := by decide +kernel
theorem q_inb : ∀ (b : Fin 4) (h : Fin 8), ∀ a, (![64 * b.val, 128 * h.val] : Fin 2 → Nat) a + S64x128.size a ≤ S256x1024.size a := by decide +kernel
theorem ctx_packed : ∀ h : Fin 8, (Rect.unit (s := S64x1024) ![0, 128 * h.val] S64x128.size (ctx_inb h)).PackedRows (EltTy.packing .bf16) := by decide +kernel

/-- The column block of head `h` of a block of keys or values. -/
abbrev colR (h : Fin 8) : Rect S1024x1024 := Rect.unit (s := S1024x1024) ![0, 128 * h.val] S1024x128.size (col_inb h)
abbrev ctxR (h : Fin 8) : Rect S64x1024 := Rect.unit (s := S64x1024) ![0, 128 * h.val] S64x128.size (ctx_inb h)
abbrev qR (b : Fin 4) (h : Fin 8) : Rect S256x1024 := Rect.unit (s := S256x1024) ![64 * b.val, 128 * h.val] S64x128.size (q_inb b h)
/-- One staging slot. -/
abbrev slotR (s : Fin 2) : Rect S2x16x64x8x128 := Rect.unit (s := S2x16x64x8x128) ![s.val, 0, 0, 0, 0] S1x16x64x8x128.size (slot_inb s)
abbrev rsR (s : Fin 3) : Rect S3x256x1024 := Rect.unit (s := S3x256x1024) ![s.val, 0, 0] S1x256x1024.size (rs_inb s)
/-- One batch of the gathered input or of the accumulator, at a row given by its offsets. -/
abbrev rowR (off : Fin 3 → Nat) (h : ∀ a, off a + S1x256x1024.size a ≤ S4x256x1024.size a) : Rect S4x256x1024 := Rect.unit (s := S4x256x1024) off S1x256x1024.size h

abbrev kvShape : Shape := S16x64x8x128
abbrev dSem2 (A : DmaSems sig S2) (s : Fin 2) : DmaSem sig := ((A.slice (Rect.unit (s := S2) ![s.val] S1.size (two_inb s))).squeeze S_ squeezes_S1_S_).sem
abbrev dSem3 (A : DmaSems sig S3) (s : Fin 3) : DmaSem sig := ((A.slice (Rect.unit (s := S3) ![s.val] S1.size (three_inb s))).squeeze S_ squeezes_S1_S_).sem
abbrev stSlot (M : Memref sig .tc .vmem S2x16x64x8x128 .f32) (s : Fin 2) : Memref sig .tc .vmem S16x64x8x128 .f32 :=
  (M.slice (slotR s) (fun _ => rfl)).squeeze S16x64x8x128 squeezes_S1x16x64x8x128_S16x64x8x128
abbrev kvBlk (M : Memref sig .tc .hbm S4x16x4x64x32x128 .f32) (off : Fin 6 → Nat) (ho : ∀ a, off a + S1x16x1x64x8x128.size a ≤ S4x16x4x64x32x128.size a) : Memref sig .tc .hbm S16x64x8x128 .f32 :=
  (M.slice (Rect.unit (s := S4x16x4x64x32x128) off S1x16x1x64x8x128.size ho) (fun _ => rfl)).squeeze S16x64x8x128 squeezes_S1x16x1x64x8x128_S16x64x8x128
abbrev xRow (off : Fin 3 → Nat) (ho : ∀ a, off a + S1x256x1024.size a ≤ S4x256x1024.size a) : Memref sig .tc .vmem S1x256x1024 .bf16 := xAll.slice (rowR off ho) (fun _ => rfl)
abbrev accRow (off : Fin 3 → Nat) (ho : ∀ a, off a + S1x256x1024.size a ≤ S4x256x1024.size a) : Memref sig .tc .vmem S1x256x1024 .f32 := accB.slice (rowR off ho) (fun _ => rfl)
abbrev rsRow (s : Fin 3) : Memref sig .tc .vmem S1x256x1024 .f32 := rsB.slice (rsR s) (fun _ => rfl)

/-! ## The steps -/

/-- Start the copies of one block of keys and values into slot `s`. -/
def issue (s : Fin 2) (off : Fin 6 → Nat) (ho : ∀ a, off a + S1x16x1x64x8x128.size a ≤ S4x16x4x64x32x128.size a) : TP F PUnit := do
  Prog.lift (.enqueueDma (kvBlk kHbm off ho) (.here (stSlot kSt s)) (.dma (dSem2 cc0_scratch15 s)) ((View.wordExact_bits rfl).reshape _ _) ((View.wordExact_bits rfl).reshape _ _) ⟨Or.inl rfl, trivial⟩)
  Prog.lift (.enqueueDma (kvBlk vHbm off ho) (.here (stSlot vSt s)) (.dma (dSem2 cc0_scratch16 s)) ((View.wordExact_bits rfl).reshape _ _) ((View.wordExact_bits rfl).reshape _ _) ⟨Or.inl rfl, trivial⟩)

/-- Wait for the block in slot `s` and cast it. -/
def fetch (s : Fin 2) (off : Fin 6 → Nat) (ho : ∀ a, off a + S1x16x1x64x8x128.size a ≤ S4x16x4x64x32x128.size a) : TP F PUnit := do
  Prog.lift (.waitDma2 (dSem2 cc0_scratch15 s) (kvBlk kHbm off ho) (stSlot kSt s) ((View.wordExact_bits rfl).reshape _ _) ((View.wordExact_bits rfl).reshape _ _))
  Prog.lift (.waitDma2 (dSem2 cc0_scratch16 s) (kvBlk vHbm off ho) (stSlot vSt s) ((View.wordExact_bits rfl).reshape _ _) ((View.wordExact_bits rfl).reshape _ _))
  let k : Vec F S1x16x64x8x128 .f32 ← Prog.lift (.load kSt (slotR s).toLoadRect (View.loadsAt_vmem h_S1x16x64x8x128))
  let _u : Vec F S1024x1024 .bf16 ← Prog.lift (.load kB (Rect.unit (s := S1024x1024) ![0, 0] S1024x1024.size inb_S1024x1024_S1024x1024_0_0).toLoadRect (View.loadsAt_vmem h_S1024x1024))
  Prog.lift (.store kB (Rect.unit (s := S1024x1024) ![0, 0] S1024x1024.size inb_S1024x1024_S1024x1024_0_0) (k0_pay6 k) Finset.univ (View.stores_vmem h_S1024x1024 ((Memref.isWhole_whole cc0_scratch6).storeExact_slice rfl _ packedbf16_S1024x1024_S1024x1024_0_0) (fun _ => rfl)) (.inl rfl))
  let v : Vec F S1x16x64x8x128 .f32 ← Prog.lift (.load vSt (slotR s).toLoadRect (View.loadsAt_vmem h_S1x16x64x8x128))
  let _w : Vec F S1024x1024 .bf16 ← Prog.lift (.load vB (Rect.unit (s := S1024x1024) ![0, 0] S1024x1024.size inb_S1024x1024_S1024x1024_0_0).toLoadRect (View.loadsAt_vmem h_S1024x1024))
  Prog.lift (.store vB (Rect.unit (s := S1024x1024) ![0, 0] S1024x1024.size inb_S1024x1024_S1024x1024_0_0) (k0_pay7 v) Finset.univ (View.stores_vmem h_S1024x1024 ((Memref.isWhole_whole cc0_scratch7).storeExact_slice rfl _ packedbf16_S1024x1024_S1024x1024_0_0) (fun _ => rfl)) (.inl rfl))

/-- Head `h` of the query block `b`: its attention over the keys at hand, into its columns of the context. -/
def head (b : Fin 4) (h : Fin 8) : TP F PUnit := do
  let k : Vec F S1024x128 .bf16 ← Prog.lift (.load kB (colR h).toLoadRect (View.loadsAt_vmem h_S1024x128))
  let v : Vec F S1024x128 .bf16 ← Prog.lift (.load vB (colR h).toLoadRect (View.loadsAt_vmem h_S1024x128))
  let q : Vec F S64x128 .bf16 ← Prog.lift (.load qB (qR b h).toLoadRect (View.loadsAt_vmem h_S64x128))
  let _u : Vec F S64x128 .bf16 ← Prog.lift (.load cB (ctxR h).toLoadRect (View.loadsAt_vmem h_S64x128))
  Prog.lift (.store cB (ctxR h) (k0_pay8 k v q) Finset.univ (View.stores_vmem h_S64x128 ((Memref.isWhole_whole cc0_scratch8).storeExact_slice rfl _ (ctx_packed h)) (fun _ => rfl)) (.inl rfl))

/-- The eight heads of one query block. -/
def heads (b : Fin 4) : TP F PUnit := do
  head b 0; head b 1; head b 2; head b 3; head b 4; head b 5; head b 6; head b 7

/-- The context's rows through the output projection, into the accumulator. -/
def close (off : Fin 3 → Nat) (ho : ∀ a, off a + S1x64x1024.size a ≤ S4x256x1024.size a) : TP F PUnit := do
  let c : Vec F S64x1024 .bf16 ← Prog.lift (.load cB (Rect.unit (s := S64x1024) ![0, 0] S64x1024.size inb_S64x1024_S64x1024_0_0).toLoadRect (View.loadsAt_vmem h_S64x1024))
  let w : Vec F S1024x1024 .bf16 ← Prog.lift (.load woB (Rect.unit (s := S1024x1024) ![0, 0] S1024x1024.size inb_S1024x1024_S1024x1024_0_0).toLoadRect (View.loadsAt_vmem h_S1024x1024))
  let _u : Vec F S1x64x1024 .f32 ← Prog.lift (.load accB (Rect.unit (s := S4x256x1024) off S1x64x1024.size ho).toLoadRect (View.loadsAt_vmem h_S1x64x1024))
  Prog.lift (.store accB (Rect.unit (s := S4x256x1024) off S1x64x1024.size ho) (k0_pay17 (k0_pay16 c w)) Finset.univ (View.stores_vmem_bits_univ h_S1x64x1024 rfl) (.inl rfl))

/-- The query block's projections of one batch, scaled. -/
def project (off : Fin 3 → Nat) (ho : ∀ a, off a + S1x256x1024.size a ≤ S4x256x1024.size a) : TP F PUnit := do
  let x : Vec F S1x256x1024 .bf16 ← Prog.lift (.load xAll (rowR off ho).toLoadRect (View.loadsAt_vmem h_S1x256x1024))
  let w : Vec F S1024x1024 .bf16 ← Prog.lift (.load wqB (Rect.unit (s := S1024x1024) ![0, 0] S1024x1024.size inb_S1024x1024_S1024x1024_0_0).toLoadRect (View.loadsAt_vmem h_S1024x1024))
  let _u : Vec F S256x1024 .bf16 ← Prog.lift (.load qB (Rect.unit (s := S256x1024) ![0, 0] S256x1024.size inb_S256x1024_S256x1024_0_0).toLoadRect (View.loadsAt_vmem h_S256x1024))
  Prog.lift (.store qB (Rect.unit (s := S256x1024) ![0, 0] S256x1024.size inb_S256x1024_S256x1024_0_0) (k0_pay5 (k0_pay4 x w)) Finset.univ (View.stores_vmem h_S256x1024 ((Memref.isWhole_whole cc0_scratch3).storeExact_slice rfl _ packedbf16_S256x1024_S256x1024_0_0) (fun _ => rfl)) (.inl rfl))

/-- One batch: four stages; `more` says whether a next batch's first two blocks are to be started. -/
def batch (d : Dev nD) (r r' : Fin 4) (r5 : Fin 5) (more : Bool) : TP F PUnit := do
  project (k0_off5 d (BitVec.ofNat 32 r5.val)) (k0_off5_inb d r5)
  fetch 0 (k0_off3 d (BitVec.ofNat 32 (1 + r.val))) (k0_off3_inb d r)
  issue 0 (k0_off6 d (BitVec.ofNat 32 (1 + r.val))) (k0_off6_inb d r)
  heads 0
  close (k0_off7 d (BitVec.ofNat 32 (1 + r.val))) (k0_off7_inb d r)
  fetch 1 (k0_off4 d (BitVec.ofNat 32 (1 + r.val))) (k0_off4_inb d r)
  issue 1 (k0_off8 d (BitVec.ofNat 32 (1 + r.val))) (k0_off8_inb d r)
  heads 1
  close (k0_off9 d (BitVec.ofNat 32 (1 + r.val))) (k0_off9_inb d r)
  fetch 0 (k0_off6 d (BitVec.ofNat 32 (1 + r.val))) (k0_off6_inb d r)
  if more then issue 0 (k0_off3 d (BitVec.ofNat 32 (1 + r'.val))) (k0_off3_inb d r')
  heads 2
  close (k0_off10 d (BitVec.ofNat 32 (1 + r.val))) (k0_off10_inb d r)
  fetch 1 (k0_off8 d (BitVec.ofNat 32 (1 + r.val))) (k0_off8_inb d r)
  if more then issue 1 (k0_off4 d (BitVec.ofNat 32 (1 + r'.val))) (k0_off4_inb d r')
  heads 3
  close (k0_off11 d (BitVec.ofNat 32 (1 + r.val))) (k0_off11_inb d r)

/-- Send one batch of the gathered input to the right. -/
def agSend (h : Fin 3) (dst : Dev nD) (off : Fin 3 → Nat) (ho : ∀ a, off a + S1x256x1024.size a ≤ S4x256x1024.size a) (hw : (Rect.unit (s := S4x256x1024) off S1x256x1024.size ho).WholeWords (EltTy.packing .bf16)) : TP F PUnit :=
  Prog.lift (.enqueueDma (xRow off ho) (.remote (Dev.tc dst) (xRow off ho) (.dma (dSem3 cc0_scratch11 h))) (.dma (dSem3 cc0_scratch12 h)) ((Memref.isWhole_whole cc0_scratch0).wordExact_slice rfl _ hw) ((Memref.isWhole_whole cc0_scratch0).wordExact_slice rfl _ hw) ⟨⟨rfl, Or.inl rfl⟩, trivial⟩)

/-- Wait for this device's hop to have left and for the left neighbour's to have come. -/
def agWait (h : Fin 3) (off : Fin 3 → Nat) (ho : ∀ a, off a + S1x256x1024.size a ≤ S4x256x1024.size a) (hw : (Rect.unit (s := S4x256x1024) off S1x256x1024.size ho).WholeWords (EltTy.packing .bf16)) : TP F PUnit := do
  Prog.lift (.waitDma2 (dSem3 cc0_scratch11 h) (xRow off ho) (xRow off ho) ((Memref.isWhole_whole cc0_scratch0).wordExact_slice rfl _ hw) ((Memref.isWhole_whole cc0_scratch0).wordExact_slice rfl _ hw))
  Prog.lift (.waitDma2 (dSem3 cc0_scratch12 h) (xRow off ho) (xRow off ho) ((Memref.isWhole_whole cc0_scratch0).wordExact_slice rfl _ hw) ((Memref.isWhole_whole cc0_scratch0).wordExact_slice rfl _ hw))

/-- Send one batch of the accumulator to the right's receive row `s`. -/
def rsSend (s : Fin 3) (dst : Dev nD) (off : Fin 3 → Nat) (ho : ∀ a, off a + S1x256x1024.size a ≤ S4x256x1024.size a) : TP F PUnit :=
  Prog.lift (.enqueueDma (accRow off ho) (.remote (Dev.tc dst) (rsRow s) (.dma (dSem3 cc0_scratch13 s))) (.dma (dSem3 cc0_scratch14 s)) (View.wordExact_bits rfl) (View.wordExact_bits rfl) ⟨⟨rfl, Or.inl rfl⟩, trivial⟩)

/-- Wait for both ends of hop `s` of the sum's ring, and add what came to the batch that is next. -/
def rsFinish (s : Fin 3) (off : Fin 3 → Nat) (ho : ∀ a, off a + S1x256x1024.size a ≤ S4x256x1024.size a) (off5 : Fin 3 → Nat) (ho5 : ∀ a, off5 a + S1x256x1024.size a ≤ S4x256x1024.size a) : TP F PUnit := do
  Prog.lift (.waitDma2 (dSem3 cc0_scratch13 s) (rsRow s) (accRow off ho) (View.wordExact_bits rfl) (View.wordExact_bits rfl))
  Prog.lift (.waitDma2 (dSem3 cc0_scratch14 s) (accRow off ho) (rsRow s) (View.wordExact_bits rfl) (View.wordExact_bits rfl))
  let a : Vec F S1x256x1024 .f32 ← Prog.lift (.load accB (rowR off5 ho5).toLoadRect (View.loadsAt_vmem h_S1x256x1024))
  let b : Vec F S1x256x1024 .f32 ← Prog.lift (.load rsB (rsR s).toLoadRect (View.loadsAt_vmem h_S1x256x1024))
  let _u : Vec F S1x256x1024 .f32 ← Prog.lift (.load accB (rowR off5 ho5).toLoadRect (View.loadsAt_vmem h_S1x256x1024))
  Prog.lift (.store accB (rowR off5 ho5) (k0_pay239 a b) Finset.univ (View.stores_vmem_bits_univ h_S1x256x1024 rfl) (.inl rfl))

/-- Meet both neighbours. -/
def meet (d : Dev nD) : TP F PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- Cast the device's own batch into its row of the gathered input. -/
def castX (off : Fin 3 → Nat) (ho : ∀ a, off a + S1x256x1024.size a ≤ S4x256x1024.size a) (hp : (Rect.unit (s := S4x256x1024) off S1x256x1024.size ho).PackedRows (EltTy.packing .bf16)) : TP F PUnit := do
  let x : Vec F S1x256x1024 .f32 ← Prog.lift (.load xIn (Rect.unit (s := S1x256x1024) ![0, 0, 0] S1x256x1024.size inb_S1x256x1024_S1x256x1024_0_0_0).toLoadRect (View.loadsAt_vmem h_S1x256x1024))
  let _u : Vec F S1x256x1024 .bf16 ← Prog.lift (.load xAll (rowR off ho).toLoadRect (View.loadsAt_vmem h_S1x256x1024))
  Prog.lift (.store xAll (rowR off ho) (k0_pay1 x) Finset.univ (View.stores_vmem h_S1x256x1024 ((Memref.isWhole_whole cc0_scratch0).storeExact_slice rfl _ hp) (fun _ => rfl)) (.inl rfl))

/-- Cast the two weight blocks. -/
def castW : TP F PUnit := do
  let w : Vec F S1024x1024 .f32 ← Prog.lift (.load wqIn (Rect.unit (s := S1024x1024) ![0, 0] S1024x1024.size inb_S1024x1024_S1024x1024_0_0).toLoadRect (View.loadsAt_vmem h_S1024x1024))
  let _u : Vec F S1024x1024 .bf16 ← Prog.lift (.load wqB (Rect.unit (s := S1024x1024) ![0, 0] S1024x1024.size inb_S1024x1024_S1024x1024_0_0).toLoadRect (View.loadsAt_vmem h_S1024x1024))
  Prog.lift (.store wqB (Rect.unit (s := S1024x1024) ![0, 0] S1024x1024.size inb_S1024x1024_S1024x1024_0_0) (k0_pay2 w) Finset.univ (View.stores_vmem h_S1024x1024 ((Memref.isWhole_whole cc0_scratch1).storeExact_slice rfl _ packedbf16_S1024x1024_S1024x1024_0_0) (fun _ => rfl)) (.inl rfl))
  let o : Vec F S1024x1024 .f32 ← Prog.lift (.load woIn (Rect.unit (s := S1024x1024) ![0, 0] S1024x1024.size inb_S1024x1024_S1024x1024_0_0).toLoadRect (View.loadsAt_vmem h_S1024x1024))
  let _u : Vec F S1024x1024 .bf16 ← Prog.lift (.load woB (Rect.unit (s := S1024x1024) ![0, 0] S1024x1024.size inb_S1024x1024_S1024x1024_0_0).toLoadRect (View.loadsAt_vmem h_S1024x1024))
  Prog.lift (.store woB (Rect.unit (s := S1024x1024) ![0, 0] S1024x1024.size inb_S1024x1024_S1024x1024_0_0) (k0_pay3 o) Finset.univ (View.stores_vmem h_S1024x1024 ((Memref.isWhole_whole cc0_scratch2).storeExact_slice rfl _ packedbf16_S1024x1024_S1024x1024_0_0) (fun _ => rfl)) (.inl rfl))

/-- The device's own batch of the summed accumulator is the result. -/
def emit (off : Fin 3 → Nat) (ho : ∀ a, off a + S1x256x1024.size a ≤ S4x256x1024.size a) : TP F PUnit := do
  let a : Vec F S1x256x1024 .f32 ← Prog.lift (.load accB (rowR off ho).toLoadRect (View.loadsAt_vmem h_S1x256x1024))
  let _u : Vec F S1x256x1024 .f32 ← Prog.lift (.load outB (Rect.unit (s := S1x256x1024) ![0, 0, 0] S1x256x1024.size inb_S1x256x1024_S1x256x1024_0_0_0).toLoadRect (View.loadsAt_vmem h_S1x256x1024))
  Prog.lift (.store outB (Rect.unit (s := S1x256x1024) ![0, 0, 0] S1x256x1024.size inb_S1x256x1024_S1x256x1024_0_0_0) a Finset.univ (View.stores_vmem_bits_univ h_S1x256x1024 rfl) (.inl rfl))

/-- What one device does, once it knows which it is. -/
def work (d : Dev nD) : TP F PUnit := do
  meet d
  castX (k0_off1 d) (k0_off1_inb d) (k0_off1_packedbf16 d)
  agSend 0 ⟨k0_dev3 d, k0_dev3_lt d⟩ (k0_off2 d (BitVec.ofNat 32 (1 + (3 : Fin 4).val))) (k0_off2_inb d 3) (k0_off2_wordsbf16 d 3)
  issue 0 (k0_off3 d (BitVec.ofNat 32 (1 + (3 : Fin 4).val))) (k0_off3_inb d 3)
  issue 1 (k0_off4 d (BitVec.ofNat 32 (1 + (3 : Fin 4).val))) (k0_off4_inb d 3)
  castW
  batch d 3 2 4 true
  agWait 0 (k0_off2 d (BitVec.ofNat 32 (1 + (3 : Fin 4).val))) (k0_off2_inb d 3) (k0_off2_wordsbf16 d 3)
  agSend 1 ⟨k0_dev4 d, k0_dev4_lt d⟩ (k0_off2 d (BitVec.ofNat 32 (1 + (2 : Fin 4).val))) (k0_off2_inb d 2) (k0_off2_wordsbf16 d 2)
  batch d 2 1 3 true
  rsSend 0 ⟨k0_dev5 d, k0_dev5_lt d⟩ (k0_off2 d (BitVec.ofNat 32 (1 + (2 : Fin 4).val))) (k0_off2_inb d 2)
  agWait 1 (k0_off2 d (BitVec.ofNat 32 (1 + (2 : Fin 4).val))) (k0_off2_inb d 2) (k0_off2_wordsbf16 d 2)
  agSend 2 ⟨k0_dev6 d, k0_dev6_lt d⟩ (k0_off2 d (BitVec.ofNat 32 (1 + (1 : Fin 4).val))) (k0_off2_inb d 1) (k0_off2_wordsbf16 d 1)
  batch d 1 0 2 true
  rsFinish 0 (k0_off2 d (BitVec.ofNat 32 (1 + (2 : Fin 4).val))) (k0_off2_inb d 2) (k0_off5 d (BitVec.ofNat 32 (2 : Fin 5).val)) (k0_off5_inb d 2)
  rsSend 1 ⟨k0_dev7 d, k0_dev7_lt d⟩ (k0_off2 d (BitVec.ofNat 32 (1 + (1 : Fin 4).val))) (k0_off2_inb d 1)
  agWait 2 (k0_off2 d (BitVec.ofNat 32 (1 + (1 : Fin 4).val))) (k0_off2_inb d 1) (k0_off2_wordsbf16 d 1)
  batch d 0 0 1 false
  rsFinish 1 (k0_off2 d (BitVec.ofNat 32 (1 + (1 : Fin 4).val))) (k0_off2_inb d 1) (k0_off5 d (BitVec.ofNat 32 (1 : Fin 5).val)) (k0_off5_inb d 1)
  rsSend 2 ⟨k0_dev8 d, k0_dev8_lt d⟩ (k0_off2 d (BitVec.ofNat 32 (1 + (0 : Fin 4).val))) (k0_off2_inb d 0)
  rsFinish 2 (k0_off2 d (BitVec.ofNat 32 (1 + (0 : Fin 4).val))) (k0_off2_inb d 0) (k0_off5 d (BitVec.ofNat 32 (0 : Fin 5).val)) (k0_off5_inb d 0)
  emit (k0_off1 d) (k0_off1_inb d)

/-- The body of one device. -/
def body : TP F PUnit := do
  let d : Dev nD ← Prog.lift .deviceId
  work d

set_option maxRecDepth 1000000 in
/-- The printed body is this one. -/
theorem body_eq :
    cc0_body_skel (F := F) xIn (Memref.isWhole_whole _) wqIn (Memref.isWhole_whole _) kHbm (Memref.isWhole_whole _) vHbm (Memref.isWhole_whole _) woIn (Memref.isWhole_whole _) outB (Memref.isWhole_whole _) xAll (Memref.isWhole_whole _) wqB (Memref.isWhole_whole _) woB (Memref.isWhole_whole _) qB (Memref.isWhole_whole _) kSt (Memref.isWhole_whole _) vSt (Memref.isWhole_whole _) kB (Memref.isWhole_whole _) vB (Memref.isWhole_whole _) cB (Memref.isWhole_whole _) accB (Memref.isWhole_whole _) rsB (Memref.isWhole_whole _) cc0_scratch11 cc0_scratch12 cc0_scratch13 cc0_scratch14 cc0_scratch15 cc0_scratch16
      = body (F := F) := by sl_kernel_rfl

end Cert.KernelIdeal.Att
end
-- ==== Proof.Content.lean ====
module

public import proofs.«01_k».proof.Proof.Plan
public import Idealize.ShloMosaic.Lib.Pipeline.Value
public import Idealize.ShloMosaic.Lib.ValueIdxCore
public import Idealize.ShloMosaic.Lib.ValueIdxRank6

/-!
# What the kernel's buffers hold

From the arrays at launch: the cast input of every batch (`XA`), one batch's scaled queries (`qOf`), one
block of keys and of values (`kOf`, `vOf`), the context of a query block over such a block (`ctxOf`), a device's
own part of the result (`PS`), and the sums that travel around the ring (`RS`).
-/

@[expose] public section

set_option maxRecDepth 16384

noncomputable section

namespace Cert.KernelIdeal.Att

open Idealize.ShloMosaic Idealize.SL.Sem Cert.KernelIdeal.Gen
open Idealize.ShloMosaic.TcCoe
open Idealize.ShloMosaic.ValueIdx

variable {F : FTy → Type} [FloatOps F]

/-! ## The ring -/

/-- The device to the right. -/
def nxt (c : Dev nD) : Dev nD := ⟨(c.val + 1) % 4, Nat.mod_lt _ (by omega)⟩
/-- The device to the left. -/
def prv (c : Dev nD) : Dev nD := ⟨(c.val + 3) % 4, Nat.mod_lt _ (by omega)⟩

theorem prv_nxt (c : Dev nD) : prv (nxt c) = c := by revert c; decide
theorem nxt_prv (c : Dev nD) : nxt (prv c) = c := by revert c; decide

/-- The batch a device works on while `r` more are to come. -/
def bat (c : Dev nD) (r : Fin 4) : Fin 4 := ⟨(c.val + r.val + 1) % 4, Nat.mod_lt _ (by omega)⟩
/-- The batch whose input device `c` sends on at hop `h`. -/
def xrow (h : Fin 3) (c : Dev nD) : Fin 4 := ⟨(c.val + 4 - h.val) % 4, Nat.mod_lt _ (by omega)⟩
/-- The batch whose sum device `c` sends on at hop `s`. -/
def arow (s : Fin 3) (c : Dev nD) : Fin 4 := ⟨(c.val + 3 - s.val) % 4, Nat.mod_lt _ (by omega)⟩

/-! ## Places -/

theorem row_inb : ∀ b : Fin 4, ∀ a, (![b.val, 0, 0] : Fin 3 → Nat) a + S1x256x1024.size a ≤ S4x256x1024.size a := by decide +kernel
theorem blk_inb : ∀ (c b qb : Fin 4), ∀ a, (![b.val, 0, qb.val, 0, 8 * c.val, 0] : Fin 6 → Nat) a + S1x16x1x64x8x128.size a ≤ S4x16x4x64x32x128.size a := by decide +kernel
theorem tile_inb : ∀ (b qb : Fin 4), ∀ a, (![b.val, 64 * qb.val, 0] : Fin 3 → Nat) a + S1x64x1024.size a ≤ S4x256x1024.size a := by decide +kernel

/-- Batch `b` of the gathered input. -/
abbrev xR (b : Fin 4) : Memref sig .tc .vmem S1x256x1024 .bf16 := xRow ![b.val, 0, 0] (row_inb b)
/-- Batch `b` of the accumulator. -/
abbrev aR (b : Fin 4) : Memref sig .tc .vmem S1x256x1024 .f32 := accRow ![b.val, 0, 0] (row_inb b)
/-- The block of batch `b` that query block `qb` attends to on device `c`, of an array of keys or values. -/
abbrev blkOf (M : Memref sig .tc .hbm S4x16x4x64x32x128 .f32) (c b qb : Fin 4) : Memref sig .tc .hbm S16x64x8x128 .f32 :=
  kvBlk M ![b.val, 0, qb.val, 0, 8 * c.val, 0] (blk_inb c b qb)

/-! ## Contents -/

variable (m : (ℓ : Loc nD τ sig) → Buf (Elt F) ℓ)

/-- The input windows as staged on device `c`. -/
def xstg (c : Dev nD) : Vec F S1x256x1024 .f32 := (win0_0.blk (0 : Fin 1)).view.read (Elt F) (m ((c : Thread nD τ).loc main_arg0))
def wqstg (c : Dev nD) : Vec F S1024x1024 .f32 := (win0_1.blk (0 : Fin 1)).view.read (Elt F) (m ((c : Thread nD τ).loc main_arg1))
def wostg (c : Dev nD) : Vec F S1024x1024 .f32 := (win0_2.blk (0 : Fin 1)).view.read (Elt F) (m ((c : Thread nD τ).loc main_arg4))

/-- The gathered input, the same on every device: batch `b` is device `b`'s input, cast. -/
def XA : Vec F S4x256x1024 .bf16 := fun i => k0_pay1 (xstg m (i 0)) (ix3 (0 : Fin 1) (i 1 : Fin 256) (i 2 : Fin 1024))
/-- Batch `b` of it. -/
def xOf (b : Fin 4) : Vec F S1x256x1024 .bf16 := k0_pay1 (xstg m b)
/-- The scaled queries of batch `b` on device `c`. -/
def qOf (c b : Fin 4) : Vec F S256x1024 .bf16 := k0_pay5 (k0_pay4 (xOf m b) (k0_pay2 (wqstg m c)))

/-- One block of keys, as the copy brings it. -/
def kRaw (c b qb : Fin 4) : Vec F S1x16x64x8x128 .f32 :=
  shapeCast S1x16x64x8x128 ((blkOf kHbm c b qb).view.read (Elt F) (m ((c : Thread nD τ).loc main_arg2))) (Eq.symm shapeCasts_S1x16x64x8x128_S16x64x8x128)
def vRaw (c b qb : Fin 4) : Vec F S1x16x64x8x128 .f32 :=
  shapeCast S1x16x64x8x128 ((blkOf vHbm c b qb).view.read (Elt F) (m ((c : Thread nD τ).loc main_arg3))) (Eq.symm shapeCasts_S1x16x64x8x128_S16x64x8x128)
def kOf (c b qb : Fin 4) : Vec F S1024x1024 .bf16 := k0_pay6 (kRaw m c b qb)
def vOf (c b qb : Fin 4) : Vec F S1024x1024 .bf16 := k0_pay7 (vRaw m c b qb)

/-- One head's columns of a block. -/
def colOf (x : Vec F S1024x1024 .bf16) (h : Fin 8) : Vec F S1024x128 .bf16 := fun j => x ((colR h).emb j)
/-- One head's columns of the queries' block `b`. -/
def qcolOf (q : Vec F S256x1024 .bf16) (b : Fin 4) (h : Fin 8) : Vec F S64x128 .bf16 := fun j => q ((qR b h).emb j)
/-- The head a column belongs to. -/
def hd (i : Fin 1024) : Fin 8 := ⟨i.val / 128, by omega⟩
/-- The context of query block `b`, all heads. -/
def ctxOf (k v : Vec F S1024x1024 .bf16) (q : Vec F S256x1024 .bf16) (b : Fin 4) : Vec F S64x1024 .bf16 := fun i =>
  k0_pay8 (colOf k (hd (i 1))) (colOf v (hd (i 1))) (qcolOf q b (hd (i 1))) (ix2 (i 0 : Fin 64) (⟨(i 1).val % 128, Nat.mod_lt _ (by omega)⟩ : Fin 128))

/-- The rows of query block `qb` of batch `b`: the context through device `c`'s part of the output projection. -/
def tileOf (c b qb : Fin 4) : Vec F S1x64x1024 .f32 :=
  k0_pay17 (k0_pay16 (ctxOf (kOf m c b qb) (vOf m c b qb) (qOf m c b) qb) (k0_pay3 (wostg m c)))
/-- Device `c`'s own part of the result, of every batch. -/
def PS (c : Fin 4) : Vec F S4x256x1024 .f32 := fun i =>
  tileOf m c (i 0) ⟨(i 1).val / 64, by have := (i 1).isLt; simp only [S4x256x1024] at this; change (i 1).val < 256 at this; omega⟩ (ix3 (0 : Fin 1) (⟨(i 1).val % 64, Nat.mod_lt _ (by omega)⟩ : Fin 64) (i 2 : Fin 1024))
/-- The sum of the parts of `s + 1` devices, ending at `c`. -/
def RS : Nat → Fin 4 → Vec F S4x256x1024 .f32
  | 0, c => PS m c
  | s + 1, c => addf (PS m c) (RS s (prv c))
/-- What lands in receive row `s` of device `c`. -/
def RB (c : Fin 4) : Vec F S3x256x1024 .f32 := fun i =>
  RS m (i 0).val (prv c) (ix3 (arow (i 0) (prv c)) (i 1 : Fin 256) (i 2 : Fin 1024))

/-- The result of device `c`. -/
def outOf (c : Fin 4) : Vec F S1x256x1024 .f32 := fun i => RS m 3 c (ix3 c (i 1 : Fin 256) (i 2 : Fin 1024))

end Cert.KernelIdeal.Att
end
-- ==== Proof.Attend.lean ====
module

public import proofs.«01_k».proof.Proof.Content
public import proofs.«01_k».proof.Proof.Gen.KernelIdeal.Launch
public import Idealize.ShloMosaic.Lib.Pipeline.Launch
public import Idealize.ShloMosaic.Lib.Pipeline.Kit

/-!
# The steps between two copies

What one head, one query block's eight heads, one projection and one closing of a stage do to the buffers
they touch: each once, at any batch, block and head.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The cross-device cells' rounds, their duties named by a Boolean. -/
abbrev UB : Type := URounds (GSem nD τ sig) Bool
/-- The window pipeline's own rounds, those, and the counters of the local copies. -/
abbrev UU : Type := UR sig nD τ × (UB × Counters)

local notation "𝕄" => MT nD τ sig Unit (Elt F) ℕ UU ℕ

abbrev 𝒱₀ : Variants := Variants.none

/-- A program run by device `c`, to the postcondition `Q`. -/
abbrev runs {α : Type} (c : Dev nD) (p : TP F α) (Q : α → sProp 𝕄) : sProp 𝕄 :=
  wp frame (wpE (defs₀ (F := F)) 𝒱₀ (c : Thread nD τ) none) Set.univ p Q

theorem runs_bind {α β : Type} (c : Dev nD) (p : TP F α) (k : α → TP F β) (Q : β → sProp 𝕄) :
    runs c (p >>= k) Q = runs c p (fun a => runs c (k a) Q) := by
  unfold runs; rw [wp_bind]

/-- A buffer of device `c` held whole. -/
abbrev held (c : Dev nD) (b : Ref sig .tc) (f : b.ty.Contents (Elt F)) : sProp 𝕄 := ((c : Thread nD τ).loc b) ↦{fullShare} f

/-! ## Windows of whole buffers -/

/-- A store into a window of a whole buffer, at an element of the window. -/
theorem write_in (b : Ref sig .tc) (r : Rect b.ty.shape) (f : b.ty.Contents (Elt F)) (w : r.shape.Idx → Elt F b.ty.elt) (x : r.shape.Idx) :
    ((View.whole b).slice r).write (Elt F) f w Finset.univ (r.emb x) = w x :=
  View.write_emb_of_mem (v := (View.whole b).slice r) f w (Finset.mem_univ x)
/-- Elsewhere. -/
theorem write_off (b : Ref sig .tc) (r : Rect b.ty.shape) (f : b.ty.Contents (Elt F)) (w : r.shape.Idx → Elt F b.ty.elt) (i : b.ty.shape.Idx) (hi : i ∉ r.set) :
    ((View.whole b).slice r).write (Elt F) f w Finset.univ i = f i :=
  View.write_of_not_mem (v := (View.whole b).slice r) f w Finset.univ (by rw [View.setOn_univ, View.set_slice_whole]; exact hi)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Whole buffers read and written -/

theorem put_q (f w : Vec F S256x1024 .bf16) :
    (qB.access (Rect.unit (s := S256x1024) ![0, 0] S256x1024.size inb_S256x1024_S256x1024_0_0)).write (Elt F) f w Finset.univ = w :=
  Memref.write_access_unit_zero_univ (Elt F) cc0_scratch3 hz2 _ f w
theorem get_wq (f : Vec F S1024x1024 .bf16) :
    wqB.view.readAt (Elt F) (Rect.unit (s := S1024x1024) ![0, 0] S1024x1024.size inb_S1024x1024_S1024x1024_0_0).toLoadRect f = f :=
  Memref.readAt_unit_zero (Elt F) cc0_scratch1 hz2 _ f
theorem get_wo (f : Vec F S1024x1024 .bf16) :
    woB.view.readAt (Elt F) (Rect.unit (s := S1024x1024) ![0, 0] S1024x1024.size inb_S1024x1024_S1024x1024_0_0).toLoadRect f = f :=
  Memref.readAt_unit_zero (Elt F) cc0_scratch2 hz2 _ f
theorem get_c (f : Vec F S64x1024 .bf16) :
    cB.view.readAt (Elt F) (Rect.unit (s := S64x1024) ![0, 0] S64x1024.size inb_S64x1024_S64x1024_0_0).toLoadRect f = f :=
  Memref.readAt_unit_zero (Elt F) cc0_scratch8 hz2 _ f
theorem put_wq (f w : Vec F S1024x1024 .bf16) :
    (wqB.access (Rect.unit (s := S1024x1024) ![0, 0] S1024x1024.size inb_S1024x1024_S1024x1024_0_0)).write (Elt F) f w Finset.univ = w :=
  Memref.write_access_unit_zero_univ (Elt F) cc0_scratch1 hz2 _ f w
theorem put_wo (f w : Vec F S1024x1024 .bf16) :
    (woB.access (Rect.unit (s := S1024x1024) ![0, 0] S1024x1024.size inb_S1024x1024_S1024x1024_0_0)).write (Elt F) f w Finset.univ = w :=
  Memref.write_access_unit_zero_univ (Elt F) cc0_scratch2 hz2 _ f w
theorem put_k (f w : Vec F S1024x1024 .bf16) :
    (kB.access (Rect.unit (s := S1024x1024) ![0, 0] S1024x1024.size inb_S1024x1024_S1024x1024_0_0)).write (Elt F) f w Finset.univ = w :=
  Memref.write_access_unit_zero_univ (Elt F) cc0_scratch6 hz2 _ f w
theorem put_v (f w : Vec F S1024x1024 .bf16) :
    (vB.access (Rect.unit (s := S1024x1024) ![0, 0] S1024x1024.size inb_S1024x1024_S1024x1024_0_0)).write (Elt F) f w Finset.univ = w :=
  Memref.write_access_unit_zero_univ (Elt F) cc0_scratch7 hz2 _ f w
theorem get_xin (f : Vec F S1x256x1024 .f32) :
    xIn.view.readAt (Elt F) (Rect.unit (s := S1x256x1024) ![0, 0, 0] S1x256x1024.size inb_S1x256x1024_S1x256x1024_0_0_0).toLoadRect f = f :=
  Memref.readAt_unit_zero (Elt F) cc0_stg0_0 hz3 _ f
theorem get_wqin (f : Vec F S1024x1024 .f32) :
    wqIn.view.readAt (Elt F) (Rect.unit (s := S1024x1024) ![0, 0] S1024x1024.size inb_S1024x1024_S1024x1024_0_0).toLoadRect f = f :=
  Memref.readAt_unit_zero (Elt F) cc0_stg1_0 hz2 _ f
theorem get_woin (f : Vec F S1024x1024 .f32) :
    woIn.view.readAt (Elt F) (Rect.unit (s := S1024x1024) ![0, 0] S1024x1024.size inb_S1024x1024_S1024x1024_0_0).toLoadRect f = f :=
  Memref.readAt_unit_zero (Elt F) cc0_stg2_0 hz2 _ f
theorem put_out (f w : Vec F S1x256x1024 .f32) :
    (outB.access (Rect.unit (s := S1x256x1024) ![0, 0, 0] S1x256x1024.size inb_S1x256x1024_S1x256x1024_0_0_0)).write (Elt F) f w Finset.univ = w :=
  Memref.write_access_unit_zero_univ (Elt F) cc0_stg3_0 hz3 _ f w

/-! ## One head -/

/-- The context buffer, its columns of the heads before `n` as they are to be. -/
def ctxUp (c : Dev nD) (x : Vec F S64x1024 .bf16) (n : Nat) : sProp 𝕄 :=
  iprop(∃ f : Vec F S64x1024 .bf16, ⌜∀ i : S64x1024.Idx, (i 1).val < 128 * n → f i = x i⌝ ∗ held c cc0_scratch8 f)

theorem ctx_step (k v : Vec F S1024x1024 .bf16) (q : Vec F S256x1024 .bf16) (b : Fin 4) (h : Fin 8) (f : Vec F S64x1024 .bf16)
    (hf : ∀ i : S64x1024.Idx, (i 1).val < 128 * h.val → f i = ctxOf k v q b i) :
    ∀ i : S64x1024.Idx, (i 1).val < 128 * (h.val + 1) →
      ((View.whole cc0_scratch8).slice (ctxR h)).write (Elt F) f (k0_pay8 (colOf k h) (colOf v h) (qcolOf q b h)) Finset.univ i = ctxOf k v q b i := by
  intro i hi
  by_cases hlt : (i 1).val < 128 * h.val
  · rw [write_off cc0_scratch8 (ctxR h) f _ i (by
      intro hm
      have := (Rect.mem_set_unit.mp hm) 1
      change 128 * h.val ≤ (i 1).val ∧ _ at this
      omega)]
    exact hf i hlt
  · obtain ⟨x, rfl⟩ : ∃ x : (ctxR h).shape.Idx, (ctxR h).emb x = i := by
      refine ⟨ix2 (i 0 : Fin 64) (⟨(i 1).val - 128 * h.val, by omega⟩ : Fin 128), ?_⟩
      funext a; refine Fin.ext ?_
      match a with
      | ⟨0, _⟩ => exact (Nat.zero_add _).trans (Nat.one_mul _)
      | ⟨1, _⟩ => change 128 * h.val + 1 * ((i 1).val - 128 * h.val) = (i 1).val; omega
    rw [write_in cc0_scratch8 (ctxR h)]
    have h1 : (((ctxR h).emb x) 1).val = 128 * h.val + (x 1).val := by change 128 * h.val + 1 * (x 1).val = _; omega
    have hx : (x 1).val < 128 := (x 1).isLt
    have hh : hd (((ctxR h).emb x) 1) = h := Fin.ext (by change (((ctxR h).emb x) 1).val / 128 = _; rw [h1]; omega)
    unfold ctxOf
    rw [hh]
    refine congrArg _ (funext fun a => Fin.ext ?_)
    match a with
    | ⟨0, _⟩ => change (x 0).val = 0 + 1 * (x 0).val; omega
    | ⟨1, _⟩ => change (x 1).val = (((ctxR h).emb x) 1).val % 128; rw [h1]; omega

/-- Head `h` of query block `b`. -/
theorem head_spec (c : Dev nD) (b : Fin 4) (h : Fin 8) (k v : Vec F S1024x1024 .bf16) (q : Vec F S256x1024 .bf16) (Q : PUnit → sProp 𝕄) :
    iprop(held c cc0_scratch6 k ∗ held c cc0_scratch7 v ∗ held c cc0_scratch3 q ∗ ctxUp c (ctxOf k v q b) h.val)
      ⊢ iprop(((held c cc0_scratch6 k ∗ held c cc0_scratch7 v ∗ held c cc0_scratch3 q ∗ ctxUp c (ctxOf k v q b) (h.val + 1)) -∗ Q ⟨⟩) -∗ runs c (head b h) Q) := by
  unfold head runs ctxUp
  simp only [Prog.lift, Prog.bind_op, Prog.bind_ret]
  iintro ⟨Hk, Hv, Hq, ⟨%f, %hf, Hc⟩⟩ HQ
  iapply (wp_load 𝒱₀ (c : Thread nD τ) none Set.univ (m := kB) (Finset.subset_univ _)) $$ Hk; iintro Hk
  iapply (wp_load 𝒱₀ (c : Thread nD τ) none Set.univ (m := vB) (Finset.subset_univ _)) $$ Hv; iintro Hv
  iapply (wp_load 𝒱₀ (c : Thread nD τ) none Set.univ (m := qB) (Finset.subset_univ _)) $$ Hq; iintro Hq
  iapply (wp_load 𝒱₀ (c : Thread nD τ) none Set.univ (m := cB) (Finset.subset_univ _)) $$ Hc; iintro Hc
  iapply (wp_store 𝒱₀ (c : Thread nD τ) none Set.univ (m := cB) (r := ctxR h) (Mk := Finset.univ) (Finset.subset_univ _)) $$ Hc; iintro Hc
  rw [wp_ret]; imodintro
  iapply HQ
  isplitl [Hk]; · iexact Hk
  isplitl [Hv]; · iexact Hv
  isplitl [Hq]; · iexact Hq
  iexists _
  isplitr
  · ipureintro; exact ctx_step k v q b h f hf
  iexact Hc

/-- What a query block's heads read: one block of keys and of values, the batch's queries; and the context so far. -/
def hot (c : Dev nD) (k v : Vec F S1024x1024 .bf16) (q : Vec F S256x1024 .bf16) (x : Vec F S64x1024 .bf16) (n : Nat) : sProp 𝕄 :=
  iprop(held c cc0_scratch6 k ∗ held c cc0_scratch7 v ∗ held c cc0_scratch3 q ∗ ctxUp c x n)

/-- The eight heads of query block `b`: the whole context, whatever was there before. -/
theorem heads_spec (c : Dev nD) (b : Fin 4) (k v : Vec F S1024x1024 .bf16) (q : Vec F S256x1024 .bf16) (Q : PUnit → sProp 𝕄) :
    hot c k v q (ctxOf k v q b) 0 ⊢ iprop((hot c k v q (ctxOf k v q b) 8 -∗ Q ⟨⟩) -∗ runs c (heads b) Q) := by
  have step (h : Fin 8) (n : Nat) (hn : n = h.val) (Q : PUnit → sProp 𝕄) :
      hot c k v q (ctxOf k v q b) n ⊢ iprop((hot c k v q (ctxOf k v q b) (n + 1) -∗ Q ⟨⟩) -∗ runs c (head b h) Q) := by subst hn; exact head_spec c b h k v q Q
  unfold heads
  simp only [runs_bind]
  iintro H HQ
  iapply (step 0 0 rfl _) $$ H; iintro H
  iapply (step 1 1 rfl _) $$ H; iintro H
  iapply (step 2 2 rfl _) $$ H; iintro H
  iapply (step 3 3 rfl _) $$ H; iintro H
  iapply (step 4 4 rfl _) $$ H; iintro H
  iapply (step 5 5 rfl _) $$ H; iintro H
  iapply (step 6 6 rfl _) $$ H; iintro H
  iapply (step 7 7 rfl _) $$ H; iintro H
  iapply HQ; iexact H

/-- The whole context as it is to be. -/
theorem ctxUp_all (c : Dev nD) (x : Vec F S64x1024 .bf16) : ctxUp c x 8 ⊢ (held c cc0_scratch8 x : sProp 𝕄) := by
  unfold ctxUp
  iintro ⟨%f, %hf, H⟩
  have : f = x := funext fun i => hf i (i 1).isLt
  subst this; iexact H
theorem ctxUp_none (c : Dev nD) (x f : Vec F S64x1024 .bf16) : (held c cc0_scratch8 f : sProp 𝕄) ⊢ ctxUp c x 0 := by
  unfold ctxUp
  iintro H
  iexists f
  isplitr; · ipureintro; exact fun i hi => absurd hi (Nat.not_lt_zero _)
  iexact H

/-! ## Rows of the gathered input and of the accumulator -/

theorem mem_row (b : Fin 4) (i : S4x256x1024.Idx) : i ∈ (rowR ![b.val, 0, 0] (row_inb b)).set ↔ (i 0).val = b.val := by
  rw [Rect.mem_set_unit]
  constructor
  · intro h; have := h 0; change b.val ≤ (i 0).val ∧ (i 0).val < b.val + 1 at this; omega
  · intro h a
    match a with
    | ⟨0, _⟩ => change b.val ≤ (i 0).val ∧ (i 0).val < b.val + 1; omega
    | ⟨1, _⟩ => change 0 ≤ (i 1).val ∧ (i 1).val < 0 + 256; exact ⟨Nat.zero_le _, by have : (i 1).val < 256 := (i 1).isLt; omega⟩
    | ⟨2, _⟩ => change 0 ≤ (i 2).val ∧ (i 2).val < 0 + 1024; exact ⟨Nat.zero_le _, by have : (i 2).val < 1024 := (i 2).isLt; omega⟩

theorem xR_set (b : Fin 4) : (xR b).view.set = (rowR ![b.val, 0, 0] (row_inb b)).set := View.set_slice_whole cc0_scratch0 _
theorem aR_set (b : Fin 4) : (aR b).view.set = (rowR ![b.val, 0, 0] (row_inb b)).set := View.set_slice_whole cc0_scratch9 _

/-- Batch `b` of device `c`'s gathered input, held at the share `q`. -/
def xPts (c : Dev nD) (b : Fin 4) (q : PosShare TreeShare) (f : Vec F S4x256x1024 .bf16) : sProp 𝕄 :=
  (xR b).view.loc (c : Thread nD τ) ↦[(xR b).view.set]{q} f
/-- Batch `b` of device `c`'s accumulator. -/
def aPts (c : Dev nD) (b : Fin 4) (f : Vec F S4x256x1024 .f32) : sProp 𝕄 :=
  (aR b).view.loc (c : Thread nD τ) ↦[(aR b).view.set]{fullShare} f

instance xPts_storable (c : Dev nD) (b : Fin 4) (q : PosShare TreeShare) (f : Vec F S4x256x1024 .bf16) : BI.Storable (upEmb : UEmb _ 𝕄) (xPts c b q f) := by unfold xPts; infer_instance
instance aPts_storable (c : Dev nD) (b : Fin 4) (f : Vec F S4x256x1024 .f32) : BI.Storable (upEmb : UEmb _ 𝕄) (aPts c b f) := by unfold aPts; infer_instance

theorem xPts_congr (c : Dev nD) (b : Fin 4) (q : PosShare TreeShare) {f g : Vec F S4x256x1024 .bf16} (h : ∀ i : S4x256x1024.Idx, (i 0).val = b.val → f i = g i) :
    (xPts c b q f : sProp 𝕄) = xPts c b q g := by
  unfold xPts; exact pointsTo_congr fun i hi => h i ((mem_row b i).mp (by rw [← xR_set]; exact hi))
theorem aPts_congr (c : Dev nD) (b : Fin 4) {f g : Vec F S4x256x1024 .f32} (h : ∀ i : S4x256x1024.Idx, (i 0).val = b.val → f i = g i) :
    (aPts c b f : sProp 𝕄) = aPts c b g := by
  unfold aPts; exact pointsTo_congr fun i hi => h i ((mem_row b i).mp (by rw [← aR_set]; exact hi))

/-- Reading batch `b` of an array of four batches. -/
def rowOf {e : EltTy} (f : S4x256x1024.Idx → Elt F e) (b : Fin 4) : S1x256x1024.Idx → Elt F e := fun j => f ((rowR ![b.val, 0, 0] (row_inb b)).emb j)

/-! ## The queries of a batch -/

variable (m : (ℓ : Loc nD τ sig) → Buf (Elt F) ℓ)

theorem row_XA (b : Fin 4) : rowOf (XA m) b = xOf m b := by
  funext j
  unfold rowOf XA xOf
  have h0 : ((rowR ![b.val, 0, 0] (row_inb b)).emb j) 0 = b := Fin.ext (by
    have : (j 0).val < 1 := (j 0).isLt
    change b.val + 1 * (j 0).val = b.val; omega)
  rw [h0]
  refine congrArg _ (funext fun a => Fin.ext ?_)
  match a with
  | ⟨0, _⟩ => have : (j 0).val < 1 := (j 0).isLt; change 0 = (j 0).val; omega
  | ⟨1, _⟩ => change 0 + 1 * (j 1).val = (j 1).val; omega
  | ⟨2, _⟩ => change 0 + 1 * (j 2).val = (j 2).val; omega

theorem project_spec (c : Dev nD) (b : Fin 4) (off : Fin 3 → Nat) (ho : ∀ a, off a + S1x256x1024.size a ≤ S4x256x1024.size a) (hoff : off = ![b.val, 0, 0])
    (q : PosShare TreeShare) (Q : PUnit → sProp 𝕄) :
    iprop(xPts c b q (XA m) ∗ held c cc0_scratch1 (k0_pay2 (wqstg m c)) ∗ (∃ f, held c cc0_scratch3 f))
      ⊢ iprop(((xPts c b q (XA m) ∗ held c cc0_scratch1 (k0_pay2 (wqstg m c)) ∗ held c cc0_scratch3 (qOf m c b)) -∗ Q ⟨⟩) -∗ runs c (project off ho) Q) := by
  subst hoff
  unfold project runs xPts
  simp only [Prog.lift, Prog.bind_op, Prog.bind_ret]
  iintro ⟨Hx, Hw, ⟨%f, Hq⟩⟩ HQ
  iapply (wp_load_rect 𝒱₀ (c : Thread nD τ) none Set.univ (m := xAll) (Finset.Subset.refl _)) $$ Hx; iintro Hx
  iapply (wp_load 𝒱₀ (c : Thread nD τ) none Set.univ (m := wqB) (Finset.subset_univ _)) $$ Hw; iintro Hw
  iapply (wp_load 𝒱₀ (c : Thread nD τ) none Set.univ (m := qB) (Finset.subset_univ _)) $$ Hq; iintro Hq
  iapply (wp_store 𝒱₀ (c : Thread nD τ) none Set.univ (m := qB) (r := Rect.unit (s := S256x1024) ![0, 0] S256x1024.size inb_S256x1024_S256x1024_0_0) (Mk := Finset.univ) (Finset.subset_univ _)) $$ Hq; iintro Hq
  rw [wp_ret]; imodintro
  iapply HQ
  isplitl [Hx]; · iexact Hx
  isplitl [Hw]; · iexact Hw
  rw [put_q, get_wq, show (xAll.access (rowR ![b.val, 0, 0] ho)).read (Elt F) (XA m) = xOf m b from row_XA m b]
  iexact Hq

end Cert.KernelIdeal.Att
end
-- ==== Proof.Local.lean ====
module

public import proofs.«01_k».proof.Proof.Attend

/-!
# One device's own steps

Each step with what it needs and what it leaves: the tile of one query block stored into the accumulator, the casts
of the input and of the weights, and the result's row.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The accumulator's rows -/

/-- Batch `b` of the accumulator, its rows of the query blocks before `n` as they are to be. -/
def accUp (c : Dev nD) (b : Fin 4) (n : Nat) : sProp 𝕄 :=
  iprop(∃ f : Vec F S4x256x1024 .f32, ⌜∀ i : S4x256x1024.Idx, (i 0).val = b.val → (i 1).val < 64 * n → f i = PS m c i⌝ ∗ aPts c b f)

theorem accUp_none (c : Dev nD) (b : Fin 4) (f : Vec F S4x256x1024 .f32) : (aPts c b f : sProp 𝕄) ⊢ accUp m c b 0 := by
  unfold accUp
  iintro H
  iexists f
  isplitr; · ipureintro; exact fun i _ hi => absurd hi (Nat.not_lt_zero _)
  iexact H
theorem accUp_all (c : Dev nD) (b : Fin 4) : accUp m c b 4 ⊢ (aPts c b (PS m c) : sProp 𝕄) := by
  unfold accUp
  iintro ⟨%f, %hf, H⟩
  iapply (Entails.of_eq (aPts_congr c b (g := PS m c) (fun i hi => hf i hi (i 1).isLt)))
  iexact H

/-- The rows of one query block of one batch. -/
abbrev tileR (b qb : Fin 4) : Rect S4x256x1024 := Rect.unit (s := S4x256x1024) ![b.val, 64 * qb.val, 0] S1x64x1024.size (tile_inb b qb)

theorem mem_tile (b qb : Fin 4) (i : S4x256x1024.Idx) : i ∈ (tileR b qb).set ↔ (i 0).val = b.val ∧ 64 * qb.val ≤ (i 1).val ∧ (i 1).val < 64 * qb.val + 64 := by
  rw [Rect.mem_set_unit]
  constructor
  · intro h; have h0 := h 0; have h1 := h 1
    change b.val ≤ (i 0).val ∧ (i 0).val < b.val + 1 at h0; change 64 * qb.val ≤ (i 1).val ∧ (i 1).val < 64 * qb.val + 64 at h1
    omega
  · intro h a
    match a with
    | ⟨0, _⟩ => change b.val ≤ (i 0).val ∧ (i 0).val < b.val + 1; omega
    | ⟨1, _⟩ => exact h.2
    | ⟨2, _⟩ => change 0 ≤ (i 2).val ∧ (i 2).val < 0 + 1024; exact ⟨Nat.zero_le _, by have : (i 2).val < 1024 := (i 2).isLt; omega⟩

theorem tile_sub (b qb : Fin 4) : (accB.access (tileR b qb)).set ⊆ (aR b).view.set := by
  intro i hi
  rw [aR_set]
  have hi' : i ∈ (tileR b qb).set := by rw [← View.set_slice_whole cc0_scratch9 (tileR b qb)]; exact hi
  exact (mem_row b i).mpr ((mem_tile b qb i).mp hi').1

theorem tile_step (c : Dev nD) (b qb : Fin 4) (f : Vec F S4x256x1024 .f32)
    (hf : ∀ i : S4x256x1024.Idx, (i 0).val = b.val → (i 1).val < 64 * qb.val → f i = PS m c i) :
    ∀ i : S4x256x1024.Idx, (i 0).val = b.val → (i 1).val < 64 * (qb.val + 1) →
      (accB.access (tileR b qb)).write (Elt F) f (tileOf m c b qb) Finset.univ i = PS m c i := by
  intro i h0 h1
  by_cases hlt : (i 1).val < 64 * qb.val
  · exact (write_off cc0_scratch9 (tileR b qb) f _ i (by
      intro hm; have := (mem_tile b qb i).mp hm; omega)).trans (hf i h0 hlt)
  · obtain ⟨x, rfl⟩ : ∃ x : (tileR b qb).shape.Idx, (tileR b qb).emb x = i := by
      refine ⟨ix3 (0 : Fin 1) (⟨(i 1).val - 64 * qb.val, by omega⟩ : Fin 64) (i 2 : Fin 1024), ?_⟩
      funext a; refine Fin.ext ?_
      match a with
      | ⟨0, _⟩ => change b.val + 1 * 0 = (i 0).val; omega
      | ⟨1, _⟩ => change 64 * qb.val + 1 * ((i 1).val - 64 * qb.val) = (i 1).val; omega
      | ⟨2, _⟩ => change 0 + 1 * (i 2).val = (i 2).val; omega
    refine (write_in cc0_scratch9 (tileR b qb) f _ x).trans ?_
    have hx0 : (x 0).val < 1 := (x 0).isLt
    have hx1 : (x 1).val < 64 := (x 1).isLt
    have e1 : (((tileR b qb).emb x) 1).val = 64 * qb.val + (x 1).val := by change 64 * qb.val + 1 * (x 1).val = _; omega
    unfold PS
    have hb : ((tileR b qb).emb x) 0 = b := Fin.ext h0
    rw [hb]
    have hq : (⟨(((tileR b qb).emb x) 1).val / 64, by rw [e1]; omega⟩ : Fin 4) = qb := Fin.ext (by change (((tileR b qb).emb x) 1).val / 64 = qb.val; rw [e1]; omega)
    rw [hq]
    refine congrArg _ (funext fun a => Fin.ext ?_)
    match a with
    | ⟨0, _⟩ => change (x 0).val = 0; omega
    | ⟨1, _⟩ => change (x 1).val = (((tileR b qb).emb x) 1).val % 64; rw [e1]; omega
    | ⟨2, _⟩ => change (x 2).val = 0 + 1 * (x 2).val; omega

theorem close_spec (c : Dev nD) (b qb : Fin 4) (off : Fin 3 → Nat) (ho : ∀ a, off a + S1x64x1024.size a ≤ S4x256x1024.size a) (hoff : off = ![b.val, 64 * qb.val, 0])
    (n : Nat) (hn : n = qb.val) (Q : PUnit → sProp 𝕄) :
    iprop(held c cc0_scratch8 (ctxOf (kOf m c b qb) (vOf m c b qb) (qOf m c b) qb) ∗ held c cc0_scratch2 (k0_pay3 (wostg m c)) ∗ accUp m c b n)
      ⊢ iprop(((held c cc0_scratch8 (ctxOf (kOf m c b qb) (vOf m c b qb) (qOf m c b) qb) ∗ held c cc0_scratch2 (k0_pay3 (wostg m c)) ∗ accUp m c b (n + 1)) -∗ Q ⟨⟩)
          -∗ runs c (close off ho) Q) := by
  subst hoff; subst hn
  unfold close runs accUp aPts
  simp only [Prog.lift, Prog.bind_op, Prog.bind_ret]
  iintro ⟨Hc, Hw, ⟨%f, %hf, Ha⟩⟩ HQ
  iapply (wp_load 𝒱₀ (c : Thread nD τ) none Set.univ (m := cB) (Finset.subset_univ _)) $$ Hc; iintro Hc
  iapply (wp_load 𝒱₀ (c : Thread nD τ) none Set.univ (m := woB) (Finset.subset_univ _)) $$ Hw; iintro Hw
  iapply (wp_load_rect 𝒱₀ (c : Thread nD τ) none Set.univ (m := accB) (tile_sub b qb)) $$ Ha; iintro Ha
  iapply (wp_store 𝒱₀ (c : Thread nD τ) none Set.univ (m := accB) (r := tileR b qb) (Mk := Finset.univ) (tile_sub b qb)) $$ Ha; iintro Ha
  rw [wp_ret]; imodintro
  iapply HQ
  isplitl [Hc]; · iexact Hc
  isplitl [Hw]; · iexact Hw
  rw [get_c, get_wo]
  iexists _
  isplitr
  · ipureintro; exact tile_step m c b qb f hf
  iexact Ha

/-! ## The casts and the result -/

theorem row_write_x (b : Fin 4) (f : Vec F S4x256x1024 .bf16) (i : S4x256x1024.Idx) (hi : (i 0).val = b.val) :
    (xAll.access (rowR ![b.val, 0, 0] (row_inb b))).write (Elt F) f (xOf m b) Finset.univ i = XA m i := by
  obtain ⟨x, rfl⟩ : ∃ x : (rowR ![b.val, 0, 0] (row_inb b)).shape.Idx, (rowR ![b.val, 0, 0] (row_inb b)).emb x = i := by
    refine ⟨ix3 (0 : Fin 1) (i 1 : Fin 256) (i 2 : Fin 1024), ?_⟩
    funext a; refine Fin.ext ?_
    match a with
    | ⟨0, _⟩ => change b.val + 1 * 0 = (i 0).val; omega
    | ⟨1, _⟩ => change 0 + 1 * (i 1).val = (i 1).val; omega
    | ⟨2, _⟩ => change 0 + 1 * (i 2).val = (i 2).val; omega
  refine (write_in cc0_scratch0 (rowR ![b.val, 0, 0] (row_inb b)) f _ x).trans ?_
  exact (congrFun (row_XA m b) x).symm

theorem castX_spec (c : Dev nD) (off : Fin 3 → Nat) (ho : ∀ a, off a + S1x256x1024.size a ≤ S4x256x1024.size a) (hp : (Rect.unit (s := S4x256x1024) off S1x256x1024.size ho).PackedRows (EltTy.packing .bf16)) (hoff : off = ![c.val, 0, 0]) (Q : PUnit → sProp 𝕄) :
    iprop(held c cc0_stg0_0 (xstg m c) ∗ (∃ f, xPts c c fullShare f))
      ⊢ iprop(((held c cc0_stg0_0 (xstg m c) ∗ xPts c c fullShare (XA m)) -∗ Q ⟨⟩) -∗ runs c (castX off ho hp) Q) := by
  subst hoff
  unfold castX runs xPts
  simp only [Prog.lift, Prog.bind_op, Prog.bind_ret]
  iintro ⟨Hi, ⟨%f, Hx⟩⟩ HQ
  iapply (wp_load 𝒱₀ (c : Thread nD τ) none Set.univ (m := xIn) (Finset.subset_univ _)) $$ Hi; iintro Hi
  iapply (wp_load_rect 𝒱₀ (c : Thread nD τ) none Set.univ (m := xAll) (Finset.Subset.refl _)) $$ Hx; iintro Hx
  iapply (wp_store 𝒱₀ (c : Thread nD τ) none Set.univ (m := xAll) (r := rowR ![c.val, 0, 0] (row_inb c)) (Mk := Finset.univ) (S := (xAll.access (rowR ![c.val, 0, 0] (row_inb c))).set) (Finset.Subset.refl _)) $$ Hx; iintro Hx
  rw [wp_ret]; imodintro
  iapply HQ
  rw [get_xin]
  isplitl [Hi]; · iexact Hi
  have e := xPts_congr c c fullShare (row_write_x m c f)
  unfold xPts at e
  iapply (Entails.of_eq e)
  iexact Hx

theorem castW_spec (c : Dev nD) (Q : PUnit → sProp 𝕄) :
    iprop(held c cc0_stg1_0 (wqstg m c) ∗ held c cc0_stg2_0 (wostg m c) ∗ (∃ f, held c cc0_scratch1 f) ∗ (∃ f, held c cc0_scratch2 f))
      ⊢ iprop(((held c cc0_stg1_0 (wqstg m c) ∗ held c cc0_stg2_0 (wostg m c) ∗ held c cc0_scratch1 (k0_pay2 (wqstg m c)) ∗ held c cc0_scratch2 (k0_pay3 (wostg m c))) -∗ Q ⟨⟩)
          -∗ runs c castW Q) := by
  unfold castW runs
  simp only [Prog.lift, Prog.bind_op, Prog.bind_ret]
  iintro ⟨Hi, Hj, ⟨%f, Hx⟩, ⟨%g, Hy⟩⟩ HQ
  iapply (wp_load 𝒱₀ (c : Thread nD τ) none Set.univ (m := wqIn) (Finset.subset_univ _)) $$ Hi; iintro Hi
  iapply (wp_load 𝒱₀ (c : Thread nD τ) none Set.univ (m := wqB) (Finset.subset_univ _)) $$ Hx; iintro Hx
  iapply (wp_store 𝒱₀ (c : Thread nD τ) none Set.univ (m := wqB) (r := Rect.unit (s := S1024x1024) ![0, 0] S1024x1024.size inb_S1024x1024_S1024x1024_0_0) (Mk := Finset.univ) (Finset.subset_univ _)) $$ Hx; iintro Hx
  iapply (wp_load 𝒱₀ (c : Thread nD τ) none Set.univ (m := woIn) (Finset.subset_univ _)) $$ Hj; iintro Hj
  iapply (wp_load 𝒱₀ (c : Thread nD τ) none Set.univ (m := woB) (Finset.subset_univ _)) $$ Hy; iintro Hy
  iapply (wp_store 𝒱₀ (c : Thread nD τ) none Set.univ (m := woB) (r := Rect.unit (s := S1024x1024) ![0, 0] S1024x1024.size inb_S1024x1024_S1024x1024_0_0) (Mk := Finset.univ) (Finset.subset_univ _)) $$ Hy; iintro Hy
  rw [wp_ret]; imodintro
  iapply HQ
  rw [get_wqin, get_woin, put_wq, put_wo]
  isplitl [Hi]; · iexact Hi
  isplitl [Hj]; · iexact Hj
  isplitl [Hx]; · iexact Hx
  iexact Hy

theorem row_read_out (c : Dev nD) : (accB.access (rowR ![c.val, 0, 0] (row_inb c))).read (Elt F) (RS m 3 c) = outOf m c := by
  funext j
  refine congrArg (RS m 3 c) (funext fun a => Fin.ext ?_)
  match a with
  | ⟨0, _⟩ => have : (j 0).val < 1 := (j 0).isLt; change c.val + 1 * (j 0).val = c.val; omega
  | ⟨1, _⟩ => change 0 + 1 * (j 1).val = (j 1).val; omega
  | ⟨2, _⟩ => change 0 + 1 * (j 2).val = (j 2).val; omega

theorem emit_spec (c : Dev nD) (off : Fin 3 → Nat) (ho : ∀ a, off a + S1x256x1024.size a ≤ S4x256x1024.size a) (hoff : off = ![c.val, 0, 0]) (Q : PUnit → sProp 𝕄) :
    iprop(aPts c c (RS m 3 c) ∗ (∃ f, held c cc0_stg3_0 f))
      ⊢ iprop(((aPts c c (RS m 3 c) ∗ held c cc0_stg3_0 (outOf m c)) -∗ Q ⟨⟩) -∗ runs c (emit off ho) Q) := by
  subst hoff
  unfold emit runs aPts
  simp only [Prog.lift, Prog.bind_op, Prog.bind_ret]
  iintro ⟨Ha, ⟨%f, Ho⟩⟩ HQ
  iapply (wp_load_rect 𝒱₀ (c : Thread nD τ) none Set.univ (m := accB) (Finset.Subset.refl _)) $$ Ha; iintro Ha
  iapply (wp_load 𝒱₀ (c : Thread nD τ) none Set.univ (m := outB) (Finset.subset_univ _)) $$ Ho; iintro Ho
  iapply (wp_store 𝒱₀ (c : Thread nD τ) none Set.univ (m := outB) (r := Rect.unit (s := S1x256x1024) ![0, 0, 0] S1x256x1024.size inb_S1x256x1024_S1x256x1024_0_0_0) (Mk := Finset.univ) (Finset.subset_univ _)) $$ Ho; iintro Ho
  rw [wp_ret]; imodintro
  iapply HQ
  rw [put_out, row_read_out]
  isplitl [Ha]; · iexact Ha
  iexact Ho

end Cert.KernelIdeal.Att
end
-- ==== Proof.Copies.lean ====
module

public import proofs.«01_k».proof.Proof.Local
public import Idealize.ShloMosaic.Lib.Transfers

/-!
# Blocks of keys and values

The two staging slots: free, or with a block of keys and one of values on the way into them. Each array of keys or
values is held in two halves, one for each slot.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

/-! ## Slots -/

/-- The half of the arrays of keys and values that slot `s`'s copies read. -/
def half : Fin 2 → PosShare TreeShare
  | 0 => fullShare.left
  | 1 => fullShare.right

theorem halves : (fullShare : PosShare TreeShare) ∈ half 0 ·? half 1 := by
  show fullShare ∈ fullShare.left ·? fullShare.right
  rw [PosShare.left_op_right]; exact Part.mem_some _

/-- Slot `s` of the staged keys, of the staged values. -/
def kSl (c : Dev nD) (s : Fin 2) (f : Vec F S2x16x64x8x128 .f32) : sProp 𝕄 := (c : Thread nD τ).loc cc0_scratch4 ↦[(slotR s).set]{fullShare} f
def vSl (c : Dev nD) (s : Fin 2) (f : Vec F S2x16x64x8x128 .f32) : sProp 𝕄 := (c : Thread nD τ).loc cc0_scratch5 ↦[(slotR s).set]{fullShare} f
/-- The keys, the values of device `c`, the elements of `S` of them, at slot `s`'s half. -/
def kPts (c : Dev nD) (s : Fin 2) (S : Finset S4x16x4x64x32x128.Idx) : sProp 𝕄 := (c : Thread nD τ).loc main_arg2 ↦[S]{half s} m ((c : Thread nD τ).loc main_arg2)
def vPts (c : Dev nD) (s : Fin 2) (S : Finset S4x16x4x64x32x128.Idx) : sProp 𝕄 := (c : Thread nD τ).loc main_arg3 ↦[S]{half s} m ((c : Thread nD τ).loc main_arg3)

/-- Slot `s` with no copy on the way. -/
def free (c : Dev nD) (s : Fin 2) : sProp 𝕄 :=
  iprop((∃ f, kSl c s f) ∗ (∃ f, vSl c s f) ∗ kPts m c s Finset.univ ∗ vPts m c s Finset.univ
    ∗ semVal ((c : Thread nD τ), SemLoc.dma (dSem2 cc0_scratch15 s)) 0 ∗ semVal ((c : Thread nD τ), SemLoc.dma (dSem2 cc0_scratch16 s)) 0)

/-- What the copy of keys leaves in slot `s` over `f`, and that of values. -/
def kLand (c : Dev nD) (s : Fin 2) (b qb : Fin 4) (f : Vec F S2x16x64x8x128 .f32) : Vec F S2x16x64x8x128 .f32 :=
  (stSlot kSt s).view.write (Elt F) f (ReadAs.same.apply ((blkOf kHbm c b qb).view.read (Elt F) (m ((c : Thread nD τ).loc main_arg2)))) Finset.univ
def vLand (c : Dev nD) (s : Fin 2) (b qb : Fin 4) (f : Vec F S2x16x64x8x128 .f32) : Vec F S2x16x64x8x128 .f32 :=
  (stSlot vSt s).view.write (Elt F) f (ReadAs.same.apply ((blkOf vHbm c b qb).view.read (Elt F) (m ((c : Thread nD τ).loc main_arg3)))) Finset.univ

/-- The units a block's copy credits. -/
abbrev NB : ℕ := (stSlot kSt 0).view.dmaCredit
theorem NB_pos : 0 < NB := by decide +kernel

/-- The elements of a block in its array. -/
abbrev kSet (c b qb : Fin 4) : Finset S4x16x4x64x32x128.Idx := (blkOf kHbm c b qb).view.set
abbrev vSet (c b qb : Fin 4) : Finset S4x16x4x64x32x128.Idx := (blkOf vHbm c b qb).view.set

/-- Slot `s` with block `qb` of batch `b` on the way. -/
def busy (c : Dev nD) (s : Fin 2) (b qb : Fin 4) : sProp 𝕄 :=
  iprop((∃ f, Transfers.Flight countersEmb (c : Thread nD τ) (.dma (dSem2 cc0_scratch15 s)) () NB iprop(kSl c s (kLand m c s b qb f) ∗ kPts m c s (kSet c b qb)))
    ∗ (∃ f, Transfers.Flight countersEmb (c : Thread nD τ) (.dma (dSem2 cc0_scratch16 s)) () NB iprop(vSl c s (vLand m c s b qb f) ∗ vPts m c s (vSet c b qb)))
    ∗ kPts m c s (Finset.univ \ kSet c b qb) ∗ vPts m c s (Finset.univ \ vSet c b qb))

theorem stSet_k (s : Fin 2) : (stSlot kSt s).view.set = (slotR s).set := (View.set_reshape _ _).trans (View.set_slice_whole cc0_scratch4 _)
theorem stSet_v (s : Fin 2) : (stSlot vSt s).view.set = (slotR s).set := (View.set_reshape _ _).trans (View.set_slice_whole cc0_scratch5 _)

theorem issue_spec (c : Dev nD) (s : Fin 2) (b qb : Fin 4) (off : Fin 6 → Nat) (ho : ∀ a, off a + S1x16x1x64x8x128.size a ≤ S4x16x4x64x32x128.size a)
    (hoff : off = ![b.val, 0, qb.val, 0, 8 * c.val, 0]) (Q : PUnit → sProp 𝕄) :
    free m c s ⊢ iprop((busy m c s b qb -∗ Q ⟨⟩) -∗ runs c (issue s off ho) Q) := by
  subst hoff
  unfold issue runs free kSl vSl kPts vPts
  simp only [Prog.lift, Prog.bind_op, Prog.bind_ret]
  iintro ⟨⟨%f, Hk⟩, ⟨%g, Hv⟩, HK, HV, Sk, Sv⟩ HQ
  ihave HK := (pointsTo_split_subset (Finset.subset_univ (kSet c b qb))).1 $$ HK
  ihave HV := (pointsTo_split_subset (Finset.subset_univ (vSet c b qb))).1 $$ HV
  icases HK with ⟨HK, HKr⟩
  icases HV with ⟨HV, HVr⟩
  iapply (Transfers.wp_dmaLocal countersEmb 𝒱₀ (c : Thread nD τ) none (src := blkOf kHbm c b qb) (dst := stSlot kSt s) (Sd := (slotR s).set) () NB rfl NB_pos (Finset.Subset.antisymm_iff.mp (stSet_k s)).1) $$ [HK Hk Sk]
  · isplitl [HK]; · iexact HK
    isplitl [Hk]; · iexact Hk
    iexact Sk
  iintro Fk
  iapply (Transfers.wp_dmaLocal countersEmb 𝒱₀ (c : Thread nD τ) none (src := blkOf vHbm c b qb) (dst := stSlot vSt s) (Sd := (slotR s).set) () NB rfl NB_pos (Finset.Subset.antisymm_iff.mp (stSet_v s)).1) $$ [HV Hv Sv]
  · isplitl [HV]; · iexact HV
    isplitl [Hv]; · iexact Hv
    iexact Sv
  iintro Fv
  rw [wp_ret]; imodintro
  iapply HQ
  unfold busy kSl vSl kPts vPts
  isplitl [Fk]; · iexists f; iexact Fk
  isplitl [Fv]; · iexists g; iexact Fv
  isplitl [HKr]; · iexact HKr
  iexact HVr

/-- Device `c` owes `O`, whatever it has waited for. -/
def ow (c : Dev nD) (O : CellTallies nD τ sig Unit) : sProp 𝕄 := iprop(∃ W, owes (c : Thread nD τ) O W)

theorem kLand_read (c : Dev nD) (s : Fin 2) (b qb : Fin 4) (f : Vec F S2x16x64x8x128 .f32) :
    kSt.view.readAt (Elt F) (slotR s).toLoadRect (kLand m c s b qb f) = kRaw m c b qb := by
  have h := Memref.read_squeeze_slice kSt (slotR s) (fun _ => rfl) squeezes_S1x16x64x8x128_S16x64x8x128 shapeCasts_S1x16x64x8x128_S16x64x8x128 (kLand m c s b qb f)
  have h2 : (stSlot kSt s).view.read (Elt F) (kLand m c s b qb f) = (blkOf kHbm c b qb).view.read (Elt F) (m ((c : Thread nD τ).loc main_arg2)) := by
    unfold kLand; exact View.read_write_univ _ _
  unfold kRaw
  rw [← h2]
  exact (shapeCast_shapeCast _ shapeCasts_S1x16x64x8x128_S16x64x8x128 (Eq.symm shapeCasts_S1x16x64x8x128_S16x64x8x128)).symm
theorem vLand_read (c : Dev nD) (s : Fin 2) (b qb : Fin 4) (f : Vec F S2x16x64x8x128 .f32) :
    vSt.view.readAt (Elt F) (slotR s).toLoadRect (vLand m c s b qb f) = vRaw m c b qb := by
  have h2 : (stSlot vSt s).view.read (Elt F) (vLand m c s b qb f) = (blkOf vHbm c b qb).view.read (Elt F) (m ((c : Thread nD τ).loc main_arg3)) := by
    unfold vLand; exact View.read_write_univ _ _
  unfold vRaw
  rw [← h2]
  exact (shapeCast_shapeCast _ shapeCasts_S1x16x64x8x128_S16x64x8x128 (Eq.symm shapeCasts_S1x16x64x8x128_S16x64x8x128)).symm

theorem slot_on (b : Ref sig .tc) (r : Rect b.ty.shape) : (View.whole b).setOn r.set ⊆ r.set := by
  intro i hi
  obtain ⟨x, hx, rfl⟩ := Finset.mem_map.mp hi
  exact hx

/-- Waiting for slot `s`: the block in the working buffers, the slot free again. -/
theorem fetch_spec (c : Dev nD) (s : Fin 2) (b qb : Fin 4) (off : Fin 6 → Nat) (ho : ∀ a, off a + S1x16x1x64x8x128.size a ≤ S4x16x4x64x32x128.size a)
    (hoff : off = ![b.val, 0, qb.val, 0, 8 * c.val, 0]) (O : CellTallies nD τ sig Unit)
    (Γ : sProp 𝕄) [BI.Persistent Γ] (hΓk : Γ ⊢ MayWait (c : Thread nD τ) (.dma (dSem2 cc0_scratch15 s)) () O) (hΓv : Γ ⊢ MayWait (c : Thread nD τ) (.dma (dSem2 cc0_scratch16 s)) () O)
    (Q : PUnit → sProp 𝕄) :
    iprop(Γ ∗ busy m c s b qb ∗ (∃ f, held c cc0_scratch6 f) ∗ (∃ f, held c cc0_scratch7 f) ∗ ow c O)
      ⊢ iprop(((free m c s ∗ held c cc0_scratch6 (kOf m c b qb) ∗ held c cc0_scratch7 (vOf m c b qb) ∗ ow c O) -∗ Q ⟨⟩) -∗ runs c (fetch s off ho) Q) := by
  subst hoff
  unfold fetch runs busy ow
  simp only [Prog.lift, Prog.bind_op, Prog.bind_ret]
  iintro ⟨#HΓ, ⟨⟨%f, Fk⟩, ⟨%g, Fv⟩, HKr, HVr⟩, ⟨%k0, Hk⟩, ⟨%v0, Hv⟩, ⟨%W, HO⟩⟩ HQ
  iapply (Transfers.wp_waitLocalO countersEmb 𝒱₀ (c : Thread nD τ) none () (rfl : (stSlot kSt s).view.dmaCredit = NB)) $$ [Fk HO]
  · isplitl [Fk]; · iexact Fk
    isplitl [HO]; · iexact HO
    iapply hΓk; iexact HΓ
  iintro ⟨⟨Sk, HK⟩, Vk, HO⟩
  iapply (Transfers.wp_waitLocalO countersEmb 𝒱₀ (c : Thread nD τ) none () (rfl : (stSlot vSt s).view.dmaCredit = NB)) $$ [Fv HO]
  · isplitl [Fv]; · iexact Fv
    isplitl [HO]; · iexact HO
    iapply hΓv; iexact HΓ
  iintro ⟨⟨Sv, HV⟩, Vv, HO⟩
  unfold kSl vSl
  iapply (wp_load 𝒱₀ (c : Thread nD τ) none Set.univ (m := kSt) (slot_on cc0_scratch4 (slotR s))) $$ Sk; iintro Sk
  rw [kLand_read]
  iapply (wp_load 𝒱₀ (c : Thread nD τ) none Set.univ (m := kB) (Finset.subset_univ _)) $$ Hk; iintro Hk
  iapply (wp_store 𝒱₀ (c : Thread nD τ) none Set.univ (m := kB) (r := Rect.unit (s := S1024x1024) ![0, 0] S1024x1024.size inb_S1024x1024_S1024x1024_0_0) (Mk := Finset.univ) (Finset.subset_univ _)) $$ Hk; iintro Hk
  iapply (wp_load 𝒱₀ (c : Thread nD τ) none Set.univ (m := vSt) (slot_on cc0_scratch5 (slotR s))) $$ Sv; iintro Sv
  rw [vLand_read]
  iapply (wp_load 𝒱₀ (c : Thread nD τ) none Set.univ (m := vB) (Finset.subset_univ _)) $$ Hv; iintro Hv
  iapply (wp_store 𝒱₀ (c : Thread nD τ) none Set.univ (m := vB) (r := Rect.unit (s := S1024x1024) ![0, 0] S1024x1024.size inb_S1024x1024_S1024x1024_0_0) (Mk := Finset.univ) (Finset.subset_univ _)) $$ Hv; iintro Hv
  rw [put_k, put_v, wp_ret]; imodintro
  iapply HQ
  unfold free kSl vSl kPts vPts
  isplitl [Sk Sv HK HV HKr HVr Vk Vv]
  · isplitl [Sk]; · iexists _; iexact Sk
    isplitl [Sv]; · iexists _; iexact Sv
    isplitl [HK HKr]
    · iapply (pointsTo_split_subset (Finset.subset_univ (kSet c b qb))).2
      isplitl [HK] <;> iassumption
    isplitl [HV HVr]
    · iapply (pointsTo_split_subset (Finset.subset_univ (vSet c b qb))).2
      isplitl [HV] <;> iassumption
    isplitl [Vk] <;> iassumption
  isplitl [Hk]; · iexact Hk
  isplitl [Hv]; · iexact Hv
  iexists _; iexact HO

end Cert.KernelIdeal.Att
end
-- ==== Proof.Batch.lean ====
module

public import proofs.«01_k».proof.Proof.Copies

/-!
# One batch

Four stages over one batch: each waits for its block of keys and values, starts the block after next into the slot it
has emptied, attends with its queries, and closes its rows of the accumulator.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

/-- The working buffers of a stage, whatever they hold. -/
def bufs (c : Dev nD) : sProp 𝕄 := iprop((∃ f, held c cc0_scratch6 f) ∗ (∃ f, held c cc0_scratch7 f) ∗ (∃ f, held c cc0_scratch8 f))

/-- Whoever has `Γ` and owes `O` may wait for the local copies. -/
def MayFetch (c : Dev nD) (O : CellTallies nD τ sig Unit) (Γ : sProp 𝕄) : Prop :=
  ∀ s : Fin 2, (Γ ⊢ MayWait (c : Thread nD τ) (.dma (dSem2 cc0_scratch15 s)) () O) ∧ (Γ ⊢ MayWait (c : Thread nD τ) (.dma (dSem2 cc0_scratch16 s)) () O)

section Stage

variable (c : Dev nD) (O : CellTallies nD τ sig Unit)

/-- What every stage of batch `b` keeps: the queries, the output weights, what is owed. -/
def kept (b : Fin 4) : sProp 𝕄 := iprop(held c cc0_scratch3 (qOf m c b) ∗ held c cc0_scratch2 (k0_pay3 (wostg m c)) ∗ bufs c ∗ ow c O)

/-- The attention and the closing of query block `qb`, its keys and values in the working buffers. -/
theorem attend_spec (b qb : Fin 4) (n : Nat) (hn : n = qb.val)
    (off3 : Fin 3 → Nat) (ho3 : ∀ a, off3 a + S1x64x1024.size a ≤ S4x256x1024.size a) (hoff3 : off3 = ![b.val, 64 * qb.val, 0]) (Q : sProp 𝕄) :
    iprop(held c cc0_scratch3 (qOf m c b) ∗ held c cc0_scratch2 (k0_pay3 (wostg m c)) ∗ held c cc0_scratch6 (kOf m c b qb) ∗ held c cc0_scratch7 (vOf m c b qb)
        ∗ (∃ f, held c cc0_scratch8 f) ∗ ow c O ∗ accUp m c b n)
      ⊢ iprop(((kept m c O b ∗ accUp m c b (n + 1)) -∗ Q) -∗ runs c (heads qb) fun _ => runs c (close off3 ho3) fun _ => Q) := by
  iintro ⟨Hq, Hw, Hk, Hv, ⟨%x, Hx⟩, HO, Ha⟩ HQ
  ihave Hx := (ctxUp_none c (ctxOf (kOf m c b qb) (vOf m c b qb) (qOf m c b) qb) x) $$ Hx
  iapply (heads_spec c qb (kOf m c b qb) (vOf m c b qb) (qOf m c b)) $$ [Hk Hv Hq Hx]
  · unfold hot
    isplitl [Hk]; · iexact Hk
    isplitl [Hv]; · iexact Hv
    isplitl [Hq]; · iexact Hq
    iexact Hx
  unfold hot
  iintro ⟨Hk, Hv, Hq, Hx⟩
  ihave Hx := (ctxUp_all c _) $$ Hx
  iapply (close_spec m c b qb off3 ho3 hoff3 n hn) $$ [Hx Hw Ha]
  · isplitl [Hx]; · iexact Hx
    isplitl [Hw]; · iexact Hw
    iexact Ha
  iintro ⟨Hx, Hw, Ha⟩
  iapply HQ
  unfold kept bufs
  isplitr [Ha]
  · isplitl [Hq]; · iexact Hq
    isplitl [Hw]; · iexact Hw
    isplitl [Hk Hv Hx]
    · isplitl [Hk]; · iexists _; iexact Hk
      isplitl [Hv]; · iexists _; iexact Hv
      iexists _; iexact Hx
    iexact HO
  iexact Ha

/-- A stage that starts block `qb'` of batch `b'` into the slot it has emptied. -/
theorem stage_spec (Γ : sProp 𝕄) [BI.Persistent Γ] (hΓ : MayFetch c O Γ) (s : Fin 2) (b qb b' qb' : Fin 4) (n : Nat) (hn : n = qb.val)
    (off : Fin 6 → Nat) (ho : ∀ a, off a + S1x16x1x64x8x128.size a ≤ S4x16x4x64x32x128.size a) (hoff : off = ![b.val, 0, qb.val, 0, 8 * c.val, 0])
    (off2 : Fin 6 → Nat) (ho2 : ∀ a, off2 a + S1x16x1x64x8x128.size a ≤ S4x16x4x64x32x128.size a) (hoff2 : off2 = ![b'.val, 0, qb'.val, 0, 8 * c.val, 0])
    (off3 : Fin 3 → Nat) (ho3 : ∀ a, off3 a + S1x64x1024.size a ≤ S4x256x1024.size a) (hoff3 : off3 = ![b.val, 64 * qb.val, 0]) (Q : sProp 𝕄) :
    iprop(Γ ∗ busy m c s b qb ∗ kept m c O b ∗ accUp m c b n)
      ⊢ iprop(((busy m c s b' qb' ∗ kept m c O b ∗ accUp m c b (n + 1)) -∗ Q)
          -∗ runs c (fetch s off ho) fun _ => runs c (issue s off2 ho2) fun _ => runs c (heads qb) fun _ => runs c (close off3 ho3) fun _ => Q) := by
  unfold kept bufs
  iintro ⟨#HΓ, Hb, ⟨Hq, Hw, ⟨Hk, Hv, Hx⟩, HO⟩, Ha⟩ HQ
  iapply (fetch_spec m c s b qb off ho hoff O Γ (hΓ s).1 (hΓ s).2) $$ [Hb Hk Hv HO]
  · isplitr; · iexact HΓ
    isplitl [Hb]; · iexact Hb
    isplitl [Hk]; · iexact Hk
    isplitl [Hv] <;> iassumption
  iintro ⟨Hf, Hk, Hv, HO⟩
  iapply (issue_spec m c s b' qb' off2 ho2 hoff2) $$ Hf
  iintro Hb
  iapply (attend_spec m c O b qb n hn off3 ho3 hoff3) $$ [Hq Hw Hk Hv Hx HO Ha]
  · isplitl [Hq]; · iexact Hq
    isplitl [Hw]; · iexact Hw
    isplitl [Hk]; · iexact Hk
    isplitl [Hv]; · iexact Hv
    isplitl [Hx]; · iexact Hx
    isplitl [HO] <;> iassumption
  unfold kept bufs
  iintro ⟨Hkept, Ha⟩
  iapply HQ
  isplitl [Hb]; · iexact Hb
  isplitl [Hkept] <;> iassumption

/-- A stage after which its slot stays empty. -/
theorem stage_last_spec (Γ : sProp 𝕄) [BI.Persistent Γ] (hΓ : MayFetch c O Γ) (s : Fin 2) (b qb : Fin 4) (n : Nat) (hn : n = qb.val)
    (off : Fin 6 → Nat) (ho : ∀ a, off a + S1x16x1x64x8x128.size a ≤ S4x16x4x64x32x128.size a) (hoff : off = ![b.val, 0, qb.val, 0, 8 * c.val, 0])
    (off3 : Fin 3 → Nat) (ho3 : ∀ a, off3 a + S1x64x1024.size a ≤ S4x256x1024.size a) (hoff3 : off3 = ![b.val, 64 * qb.val, 0]) (Q : sProp 𝕄) :
    iprop(Γ ∗ busy m c s b qb ∗ kept m c O b ∗ accUp m c b n)
      ⊢ iprop(((free m c s ∗ kept m c O b ∗ accUp m c b (n + 1)) -∗ Q)
          -∗ runs c (fetch s off ho) fun _ => runs c (heads qb) fun _ => runs c (close off3 ho3) fun _ => Q) := by
  unfold kept bufs
  iintro ⟨#HΓ, Hb, ⟨Hq, Hw, ⟨Hk, Hv, Hx⟩, HO⟩, Ha⟩ HQ
  iapply (fetch_spec m c s b qb off ho hoff O Γ (hΓ s).1 (hΓ s).2) $$ [Hb Hk Hv HO]
  · isplitr; · iexact HΓ
    isplitl [Hb]; · iexact Hb
    isplitl [Hk]; · iexact Hk
    isplitl [Hv] <;> iassumption
  iintro ⟨Hf, Hk, Hv, HO⟩
  iapply (attend_spec m c O b qb n hn off3 ho3 hoff3) $$ [Hq Hw Hk Hv Hx HO Ha]
  · isplitl [Hq]; · iexact Hq
    isplitl [Hw]; · iexact Hw
    isplitl [Hk]; · iexact Hk
    isplitl [Hv]; · iexact Hv
    isplitl [Hx]; · iexact Hx
    isplitl [HO] <;> iassumption
  unfold kept bufs
  iintro ⟨Hkept, Ha⟩
  iapply HQ
  isplitl [Hf]; · iexact Hf
  isplitl [Hkept] <;> iassumption

/-- The two slots before a batch: both of its first blocks on the way; or empty, if no batch is to come. -/
def slots (more : Bool) (b : Fin 4) : sProp 𝕄 :=
  if more then iprop(busy m c 0 b 0 ∗ busy m c 1 b 1) else iprop(free m c 0 ∗ free m c 1)

/-- What a batch uses besides its rows: the weights, the queries' buffer, the stages' buffers, what is owed. -/
def gear : sProp 𝕄 :=
  iprop(held c cc0_scratch1 (k0_pay2 (wqstg m c)) ∗ held c cc0_scratch2 (k0_pay3 (wostg m c)) ∗ (∃ f, held c cc0_scratch3 f) ∗ bufs c ∗ ow c O)

set_option maxHeartbeats 400000 in
/-- One batch: its rows of the accumulator hold the device's own part. -/
theorem batch_spec (Γ : sProp 𝕄) [BI.Persistent Γ] (hΓ : MayFetch c O Γ) (r r' : Fin 4) (r5 : Fin 5) (hr5 : (c.val + r5.val) % 4 = (bat c r).val) (more : Bool) (q : PosShare TreeShare) (Q : PUnit → sProp 𝕄) :
    iprop(Γ ∗ xPts c (bat c r) q (XA m) ∗ slots m c true (bat c r) ∗ gear m c O ∗ (∃ f, aPts c (bat c r) f))
      ⊢ iprop(((xPts c (bat c r) q (XA m) ∗ slots m c more (bat c r') ∗ gear m c O ∗ aPts c (bat c r) (PS m c)) -∗ Q ⟨⟩) -∗ runs c (batch c r r' r5 more) Q) := by
  have e3 (r : Fin 4) : k0_off3 c (BitVec.ofNat 32 (1 + r.val)) = ![(bat c r).val, 0, (0 : Fin 4).val, 0, 8 * c.val, 0] := k0_off3_eq c r
  have e4 (r : Fin 4) : k0_off4 c (BitVec.ofNat 32 (1 + r.val)) = ![(bat c r).val, 0, (1 : Fin 4).val, 0, 8 * c.val, 0] := k0_off4_eq c r
  have e6 : k0_off6 c (BitVec.ofNat 32 (1 + r.val)) = ![(bat c r).val, 0, (2 : Fin 4).val, 0, 8 * c.val, 0] := k0_off6_eq c r
  have e8 : k0_off8 c (BitVec.ofNat 32 (1 + r.val)) = ![(bat c r).val, 0, (3 : Fin 4).val, 0, 8 * c.val, 0] := k0_off8_eq c r
  have e7 : k0_off7 c (BitVec.ofNat 32 (1 + r.val)) = ![(bat c r).val, 64 * (0 : Fin 4).val, 0] := k0_off7_eq c r
  have e9 : k0_off9 c (BitVec.ofNat 32 (1 + r.val)) = ![(bat c r).val, 64 * (1 : Fin 4).val, 0] := k0_off9_eq c r
  have e10 : k0_off10 c (BitVec.ofNat 32 (1 + r.val)) = ![(bat c r).val, 64 * (2 : Fin 4).val, 0] := k0_off10_eq c r
  have e11 : k0_off11 c (BitVec.ofNat 32 (1 + r.val)) = ![(bat c r).val, 64 * (3 : Fin 4).val, 0] := k0_off11_eq c r
  have e5 : k0_off5 c (BitVec.ofNat 32 r5.val) = ![(bat c r).val, 0, 0] := by rw [k0_off5_eq, hr5]
  unfold batch gear slots
  rw [if_pos rfl]
  simp only [runs_bind]
  iintro ⟨#HΓ, Hx, ⟨Hb0, Hb1⟩, ⟨Hwq, Hwo, Hq, Hbufs, HO⟩, ⟨%f, Ha⟩⟩ HQ
  iapply (project_spec m c (bat c r) _ _ e5 q) $$ [Hx Hwq Hq]
  · isplitl [Hx]; · iexact Hx
    isplitl [Hwq] <;> iassumption
  iintro ⟨Hx, Hwq, Hq⟩
  ihave Ha := (accUp_none m c (bat c r) f) $$ Ha
  iapply (stage_spec m c O Γ hΓ 0 (bat c r) 0 (bat c r) 2 0 rfl _ _ (e3 r) _ _ e6 _ _ e7) $$ [Hb0 Hq Hwo Hbufs HO Ha]
  · isplitr; · iexact HΓ
    isplitl [Hb0]; · iexact Hb0
    isplitr [Ha]
    · unfold kept
      isplitl [Hq]; · iexact Hq
      isplitl [Hwo]; · iexact Hwo
      isplitl [Hbufs] <;> iassumption
    iexact Ha
  iintro ⟨Hb0, Hkept, Ha⟩
  iapply (stage_spec m c O Γ hΓ 1 (bat c r) 1 (bat c r) 3 1 rfl _ _ (e4 r) _ _ e8 _ _ e9) $$ [Hb1 Hkept Ha]
  · isplitr; · iexact HΓ
    isplitl [Hb1]; · iexact Hb1
    isplitl [Hkept] <;> iassumption
  iintro ⟨Hb1, Hkept, Ha⟩
  cases more with
  | true =>
    simp only [↓reduceIte, runs_bind]
    iapply (stage_spec m c O Γ hΓ 0 (bat c r) 2 (bat c r') 0 2 rfl _ _ e6 _ _ (e3 r') _ _ e10) $$ [Hb0 Hkept Ha]
    · isplitr; · iexact HΓ
      isplitl [Hb0]; · iexact Hb0
      isplitl [Hkept] <;> iassumption
    iintro ⟨Hb0, Hkept, Ha⟩
    iapply (stage_spec m c O Γ hΓ 1 (bat c r) 3 (bat c r') 1 3 rfl _ _ e8 _ _ (e4 r') _ _ e11 (Q ⟨⟩)) $$ [Hb1 Hkept Ha]
    · isplitr; · iexact HΓ
      isplitl [Hb1]; · iexact Hb1
      isplitl [Hkept] <;> iassumption
    iintro ⟨Hb1, Hkept, Ha⟩
    iapply HQ
    ihave Ha := (accUp_all m c (bat c r)) $$ Ha
    unfold kept
    icases Hkept with ⟨Hq, Hwo, Hbufs, HO⟩
    isplitl [Hx]; · iexact Hx
    isplitl [Hb0 Hb1]; · isplitl [Hb0] <;> iassumption
    isplitr [Ha]
    · isplitl [Hwq]; · iexact Hwq
      isplitl [Hwo]; · iexact Hwo
      isplitl [Hq]; · iexists _; iexact Hq
      isplitl [Hbufs] <;> iassumption
    iexact Ha
  | false =>
    simp only [Bool.false_eq_true, ↓reduceIte, Prog.pure_eq_ret, runs_bind]
    iapply (stage_last_spec m c O Γ hΓ 0 (bat c r) 2 2 rfl _ _ e6 _ _ e10) $$ [Hb0 Hkept Ha]
    · isplitr; · iexact HΓ
      isplitl [Hb0]; · iexact Hb0
      isplitl [Hkept] <;> iassumption
    iintro ⟨Hb0, Hkept, Ha⟩
    iapply (stage_last_spec m c O Γ hΓ 1 (bat c r) 3 3 rfl _ _ e8 _ _ e11 (Q ⟨⟩)) $$ [Hb1 Hkept Ha]
    · isplitr; · iexact HΓ
      isplitl [Hb1]; · iexact Hb1
      isplitl [Hkept] <;> iassumption
    iintro ⟨Hb1, Hkept, Ha⟩
    iapply HQ
    ihave Ha := (accUp_all m c (bat c r)) $$ Ha
    unfold kept
    icases Hkept with ⟨Hq, Hwo, Hbufs, HO⟩
    isplitl [Hx]; · iexact Hx
    isplitl [Hb0 Hb1]; · isplitl [Hb0] <;> iassumption
    isplitr [Ha]
    · isplitl [Hwq]; · iexact Hwq
      isplitl [Hwo]; · iexact Hwo
      isplitl [Hq]; · iexists _; iexact Hq
      isplitl [Hbufs] <;> iassumption
    iexact Ha

end Stage

end Cert.KernelIdeal.Att
end
-- ==== Proof.Protocol.lean ====
module

public import proofs.«01_k».proof.Proof.Batch
public import Idealize.ShloMosaic.Lib.Rounds

/-!
# The devices' protocol

Every device has thirteen cells: its barrier, and three each of the gather's sends and receives and of the sum's sends
and receives. Each is waited on once, in one round of duties.

* The barrier: the left neighbour's unit hands nothing; the right neighbour's hands that neighbour's three empty rows
  of the gathered input and its three empty receive rows, into which this device will copy.
* The gather's send `h` (the device's own copy has left): the half of the row that the copy read.
  Its receive `h`: the row that the left neighbour has sent on, filled.
* The sum's send `s`: the accumulator's row that was sent, back. Its receive `s`: receive row `s`, filled with
  what the left neighbour had summed.

A wait is allowed because its cell's level is below the level of everything the device still owes.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

/-! ## Cells -/

/-- A device's cells: the barrier; the gather's sends, receives; the sum's sends, receives. -/
abbrev Cell : Type := Option (Fin 4 × Fin 3)
abbrev bar : Cell := none
abbrev xs (h : Fin 3) : Cell := some (0, h)
abbrev xr (h : Fin 3) : Cell := some (1, h)
abbrev ss (s : Fin 3) : Cell := some (2, s)
abbrev sr (s : Fin 3) : Cell := some (3, s)

abbrev barS : Sem sig := (SemArray.scalar (sig.barrier 0 rfl) : Sems sig S_).sem

/-- The semaphore of a cell. -/
def csem : Cell → SemLoc sig
  | none => .reg barS
  | some (0, h) => .dma (dSem3 cc0_scratch11 h)
  | some (1, h) => .dma (dSem3 cc0_scratch12 h)
  | some (2, h) => .dma (dSem3 cc0_scratch13 h)
  | some (3, h) => .dma (dSem3 cc0_scratch14 h)

theorem csem_inj : ∀ a b : Cell, csem a = csem b → a = b := by decide +kernel

/-- The cell that a semaphore is, if it is one. -/
def nameOf (s : SemLoc sig) : Option Cell := by
  classical exact if h : ∃ k, csem k = s then some h.choose else none

theorem nameOf_csem (k : Cell) : nameOf (csem k) = some k := by
  unfold nameOf
  rw [dif_pos ⟨k, rfl⟩]
  exact congrArg some (csem_inj _ _ (Exists.choose_spec (p := fun j => csem j = csem k) ⟨k, rfl⟩))
theorem nameOf_none (s : SemLoc sig) (h : ∀ k, csem k ≠ s) : nameOf s = none := by
  unfold nameOf
  rw [dif_neg fun ⟨k, hk⟩ => h k hk]

/-- A cell of one device. -/
abbrev kcell (c : Dev nD) (k : Cell) : GSem nD τ sig := ((c : Thread nD τ), csem k)

/-- Receive row `s` of device `c`. -/
def rPts (c : Dev nD) (s : Fin 3) (f : Vec F S3x256x1024 .f32) : sProp 𝕄 :=
  (rsRow s).view.loc (c : Thread nD τ) ↦[(rsRow s).view.set]{fullShare} f

instance rPts_storable (c : Dev nD) (s : Fin 3) (f : Vec F S3x256x1024 .f32) : BI.Storable (upEmb : UEmb _ 𝕄) (rPts c s f) := by unfold rPts; infer_instance

/-- The units of a copy of one batch of the input; of the sum. -/
abbrev NX : ℕ := (xR 0).view.dmaCredit
abbrev NR : ℕ := (rsRow 0).view.dmaCredit
theorem NX_pos : 0 < NX := by decide +kernel
theorem NR_pos : 0 < NR := by decide +kernel

/-! ## The schedule -/

/-- What the right neighbour's barrier unit hands device `c`: that neighbour's empty rows. -/
def barPay (c : Dev nD) : sProp 𝕄 :=
  iprop(((∃ f, xPts (nxt c) (xrow 0 c) fullShare f) ∗ (∃ f, xPts (nxt c) (xrow 1 c) fullShare f) ∗ (∃ f, xPts (nxt c) (xrow 2 c) fullShare f))
    ∗ (∃ f, rPts (nxt c) 0 f) ∗ (∃ f, rPts (nxt c) 1 f) ∗ (∃ f, rPts (nxt c) 2 f))

instance barPay_storable (c : Dev nD) : BI.Storable (upEmb : UEmb _ 𝕄) (barPay (F := F) c) := by unfold barPay; infer_instance

/-- What a landing on a cell of device `c` hands over. -/
def pay (c : Dev nD) (d : Bool) : Cell → sProp 𝕄
  | none => if d then barPay c else iprop(emp)
  | some (0, h) => xPts c (xrow h c) (half 1) (XA m)
  | some (1, h) => xPts c (xrow h (prv c)) fullShare (XA m)
  | some (2, s) => aPts c (arow s c) (RS m s.val c)
  | some (3, s) => rPts c s (RB m c)

instance pay_storable (c : Dev nD) (d : Bool) (k : Cell) : BI.Storable (upEmb : UEmb _ 𝕄) (pay m c d k) := by
  match k, d with
  | none, true => exact (inferInstanceAs (BI.Storable (upEmb : UEmb _ 𝕄) (barPay c)))
  | none, false => exact (inferInstanceAs (BI.Storable (upEmb : UEmb _ 𝕄) iprop(emp)))
  | some (0, h), _ => exact (inferInstanceAs (BI.Storable (upEmb : UEmb _ 𝕄) (xPts c (xrow h c) (half 1) (XA m))))
  | some (1, h), _ => exact (inferInstanceAs (BI.Storable (upEmb : UEmb _ 𝕄) (xPts c (xrow h (prv c)) fullShare (XA m))))
  | some (2, s), _ => exact (inferInstanceAs (BI.Storable (upEmb : UEmb _ 𝕄) (aPts c (arow s c) (RS m s.val c))))
  | some (3, s), _ => exact (inferInstanceAs (BI.Storable (upEmb : UEmb _ 𝕄) (rPts c s (RB m c))))

/-- The duties of a cell. -/
def dutiesOf : Cell → Finset Bool
  | none => Finset.univ
  | some _ => {false}
/-- The units of each. -/
def unitsOf : Cell → ℕ
  | none => 1
  | some (0, _) => NX
  | some (1, _) => NX
  | some (2, _) => NR
  | some (3, _) => NR

theorem unitsOf_pos : ∀ k, 0 < unitsOf k
  | none => Nat.one_pos
  | some (0, _) => NX_pos
  | some (1, _) => NX_pos
  | some (2, _) => NR_pos
  | some (3, _) => NR_pos

/-- The schedule of all cells: one round each. -/
def plan : Rounds.Schedule (GSem nD τ sig) Bool 𝕄 where
  duties g r := if r = 0 then (nameOf g.2).elim ∅ dutiesOf else ∅
  unitless _ := False
  amount g _ _ := (nameOf g.2).elim 1 unitsOf
  payload g _ d := (nameOf g.2).elim iprop(emp) (pay m g.1.1 d)
  amount_pos g _ _ _ := by
    cases nameOf g.2 with
    | none => exact Nat.one_pos
    | some k => exact unitsOf_pos k

instance plan_storable (g : GSem nD τ sig) (r : ℕ) (d : Bool) : BI.Storable (upEmb : UEmb _ 𝕄) ((plan m).payload g r d) := by
  show BI.Storable upEmb ((nameOf g.2).elim iprop(emp) (pay m g.1.1 d))
  cases nameOf g.2 with
  | none => exact (inferInstance : BI.Storable (upEmb : UEmb _ 𝕄) iprop(emp))
  | some k => exact pay_storable m _ d k

section Tables
variable (c : Dev nD) (k : Cell)

theorem plan_duties : (plan m).duties (kcell c k) 0 = dutiesOf k := by
  show (if (0 : ℕ) = 0 then (nameOf (csem k)).elim ∅ dutiesOf else ∅) = _
  rw [if_pos rfl, nameOf_csem]; rfl
theorem plan_later (g : GSem nD τ sig) : ∀ r, 1 ≤ r → (plan m).duties g r = ∅ := fun r hr => by
  show (if r = 0 then (nameOf g.2).elim ∅ dutiesOf else ∅) = ∅
  rw [if_neg (by omega)]
theorem plan_amount (d : Bool) : (plan m).amount (kcell c k) 0 d = unitsOf k := by
  show (nameOf (csem k)).elim 1 unitsOf = _
  rw [nameOf_csem]; rfl
theorem plan_payload (d : Bool) : (plan m).payload (kcell c k) 0 d = pay m c d k := by
  show (nameOf (csem k)).elim iprop(emp) (pay m c d) = _
  rw [nameOf_csem]; rfl

theorem plan_mem (kh : Fin 4 × Fin 3) : false ∈ (plan m).duties (kcell c (some kh)) 0 := by
  rw [plan_duties]; exact Finset.mem_singleton_self _
theorem plan_mem_bar (d : Bool) : d ∈ (plan m).duties (kcell c bar) 0 := by
  rw [plan_duties]; exact Finset.mem_univ _

theorem plan_expect_bar : (plan m).expect (kcell c bar) 0 = 2 := by
  unfold Schedule.expect Schedule.amountOf
  rw [plan_duties, Finset.sum_congr rfl fun d _ => plan_amount m c bar d]
  rfl
theorem plan_expect (kh : Fin 4 × Fin 3) : (plan m).expect (kcell c (some kh)) 0 = unitsOf (some kh) := by
  unfold Schedule.expect Schedule.amountOf
  rw [plan_duties]; exact (Finset.sum_singleton _ _).trans (plan_amount m c (some kh) false)

/-- All that a full wait on a cell of one duty hands over. -/
theorem plan_rest (kh : Fin 4 × Fin 3) :
    bigSep ((plan m).duties (kcell c (some kh)) 0 \ ∅) (fun d => (plan m).payload (kcell c (some kh)) 0 d) = pay m c false (some kh) := by
  rw [Finset.sdiff_empty, plan_duties]
  exact bigSep_singleton.trans (plan_payload m c (some kh) false)
/-- And on the barrier. -/
theorem plan_rest_bar :
    bigSep ((plan m).duties (kcell c bar) 0 \ ∅) (fun d => (plan m).payload (kcell c bar) 0 d) = iprop(emp ∗ barPay c) := by
  rw [Finset.sdiff_empty, plan_duties, show dutiesOf bar = Finset.univ from rfl, bigSep_univ_eq_bigSepL [false, true] (by decide) (by decide),
    bigSepL_cons_cons, bigSepL_singleton, plan_payload, plan_payload]
  rfl

end Tables

/-! ## Levels and debts -/

/-- The level of a cell. -/
def lvC : Cell → ℕ
  | none => 1
  | some (0, _) => 0
  | some (1, h) => 2 + h.val
  | some (2, _) => 0
  | some (3, s) => 5 + s.val

/-- The level of a semaphore. -/
def lv (g : GSem nD τ sig) (_ : Unit) : ℕ := (nameOf g.2).elim 0 lvC
/-- The cells that have a level: the cores'. -/
def L (g : GSem nD τ sig) : Finset Unit := if g.1.2 = .tc then {()} else ∅

theorem lv_kcell (c : Dev nD) (k : Cell) (u : Unit) : lv (kcell c k) u = lvC k := by
  show (nameOf (csem k)).elim 0 lvC = _
  rw [nameOf_csem]; rfl
theorem L_tc (c : Dev nD) (sm : SemLoc sig) : L ((c : Thread nD τ), sm) = {()} := if_pos rfl
theorem L_of_ne (g : GSem nD τ sig) (h : g.1.2 ≠ .tc) : L g = ∅ := if_neg h

/-- All that is owed by `D` is owed to cells of levels above `n`. -/
def Above (n : ℕ) (D : CellTallies nD τ sig Unit) : Prop := ∀ g u, 0 < D g u → u ∈ L g ∧ n < lv g u

theorem Above.zero (n : ℕ) : Above n 0 := fun g u h => absurd h (Nat.lt_irrefl 0)
theorem Above.add {n : ℕ} {D : CellTallies nD τ sig Unit} (hD : Above n D) (c : Dev nD) (k : Cell) (N : ℕ) (hk : n < lvC k) :
    Above n (D + tallyAt (kcell c k) () N) := fun g u h => by
  by_cases hg : g = kcell c k
  · subst hg
    exact ⟨by rw [L_tc]; exact Finset.mem_singleton_self _, by rw [lv_kcell]; exact hk⟩
  · refine hD g u ?_
    rw [Pi.add_apply, Finsupp.add_apply, tallyAt_apply, if_neg (fun hh => hg hh.1), Nat.add_zero] at h
    exact h

/-- A device may wait where the level is below all that it owes. -/
theorem may_wait (c : Dev nD) (sm : SemLoc sig) (n : ℕ) (D : CellTallies nD τ sig Unit) (hs : lv ((c : Thread nD τ), sm) () ≤ n) (hD : Above n D) :
    (levAts L lv : sProp 𝕄) ⊢ MayWait (c : Thread nD τ) sm () D :=
  MayOwe.of_cut (L := L) (lev := lv) n
    (fun p hp => by rw [Finset.mem_singleton.mp hp, L_tc]; exact Finset.mem_singleton_self _)
    (fun g u hg => (hD g u hg).1)
    (fun p hp => by rw [Finset.mem_singleton.mp hp]; exact hs)
    (fun g u hg => (hD g u hg).2)

/-- A semaphore that is no cell has level zero. -/
theorem lv_other (c : Dev nD) (sm : SemLoc sig) (h : ∀ k, csem k ≠ sm) : lv ((c : Thread nD τ), sm) () ≤ 0 := by
  show (nameOf sm).elim 0 lvC ≤ 0
  rw [nameOf_none sm h]; exact Nat.le_refl 0

theorem csem_ne_k : ∀ (k : Cell) (s : Fin 2), csem k ≠ .dma (dSem2 cc0_scratch15 s) := by decide +kernel
theorem csem_ne_v : ∀ (k : Cell) (s : Fin 2), csem k ≠ .dma (dSem2 cc0_scratch16 s) := by decide +kernel

/-- The waits for the local copies are always allowed. -/
theorem may_fetch (c : Dev nD) (D : CellTallies nD τ sig Unit) (hD : Above 0 D) (Γ : sProp 𝕄) (hΓ : Γ ⊢ levAts L lv) : MayFetch c D Γ := fun s =>
  ⟨hΓ.trans (may_wait c _ 0 D (lv_other c _ fun k => csem_ne_k k s) hD), hΓ.trans (may_wait c _ 0 D (lv_other c _ fun k => csem_ne_v k s) hD)⟩

/-- The gather's copy `h`, the sum's copy `s`, as debts of device `c`: to the right neighbour's receive cells. -/
abbrev tX (c : Dev nD) (h : Fin 3) : CellTallies nD τ sig Unit := tallyAt (kcell (nxt c) (xr h)) () NX
abbrev tS (c : Dev nD) (s : Fin 3) : CellTallies nD τ sig Unit := tallyAt (kcell (nxt c) (sr s)) () NR

/-- What is still owed after the fifth copy, the fourth, … and before the first. -/
abbrev debt5 (c : Dev nD) : CellTallies nD τ sig Unit := 0 + tS c 2
abbrev debt4 (c : Dev nD) : CellTallies nD τ sig Unit := debt5 c + tS c 1
abbrev debt3 (c : Dev nD) : CellTallies nD τ sig Unit := debt4 c + tX c 2
abbrev debt2 (c : Dev nD) : CellTallies nD τ sig Unit := debt3 c + tS c 0
abbrev debt1 (c : Dev nD) : CellTallies nD τ sig Unit := debt2 c + tX c 1
abbrev debt0 (c : Dev nD) : CellTallies nD τ sig Unit := debt1 c + tX c 0
/-- At launch: the two barrier units too. -/
abbrev debtR (c : Dev nD) : CellTallies nD τ sig Unit := debt0 c + tallyAt (kcell (nxt c) bar) () 1
abbrev debt (c : Dev nD) : CellTallies nD τ sig Unit := debtR c + tallyAt (kcell (prv c) bar) () 1

theorem above5 (c : Dev nD) (n : ℕ) (hn : n < 7) : Above n (debt5 c) := (Above.zero n).add _ _ _ hn
theorem above4 (c : Dev nD) (n : ℕ) (hn : n < 6) : Above n (debt4 c) := (above5 c n (by omega)).add _ _ _ hn
theorem above3 (c : Dev nD) (n : ℕ) (hn : n < 4) : Above n (debt3 c) := (above4 c n (by omega)).add _ _ _ hn
theorem above2 (c : Dev nD) (n : ℕ) (hn : n < 4) : Above n (debt2 c) := (above3 c n (by omega)).add _ _ _ (show n < 5 by omega)
theorem above1 (c : Dev nD) (n : ℕ) (hn : n < 3) : Above n (debt1 c) := (above2 c n (by omega)).add _ _ _ hn
theorem above0 (c : Dev nD) (n : ℕ) (hn : n < 2) : Above n (debt0 c) := (above1 c n (by omega)).add _ _ _ hn
theorem above_all (c : Dev nD) : Above 0 (debt c) := ((above0 c 0 (by omega)).add _ bar _ Nat.one_pos).add _ bar _ Nat.one_pos

end Cert.KernelIdeal.Att
end
-- ==== Proof.Talk.lean ====
module

public import proofs.«01_k».proof.Proof.Protocol

/-!
# The steps that talk

Each step of the protocol as a triple: meeting the neighbours, the gather's sends and waits, the sum's sends and waits.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

/-- The rounds' algebra, left of the counters in the right of the model's user part. -/
def ER : Emb UB 𝕄 :=
  ((Emb.inl : Emb UB (UB × Counters)).trans (Emb.inr : Emb (UB × Counters) UU)).trans (uEmb (nD := nD) (sig := sig) (Ix := Unit) (Val := Elt F) (Name := ℕ) (U := UU) (Lvl := ℕ)).toEmb

instance ER_landsIn : (ER : Emb UB 𝕄).LandsIn (upEmb : UEmb _ 𝕄) := by unfold ER; infer_instance

/-! ## What every step knows -/

/-- A cell's invariants and that its round has begun; the levels. -/
def ctx (K : Dev nD × Cell → ℕ) : sProp 𝕄 :=
  iprop((bigSep Finset.univ fun p : Dev nD × Cell => cellInv ER (plan m) (K p) (kcell p.1 p.2))
    ∗ (bigSep Finset.univ fun p : Dev nD × Cell => reached ER (kcell p.1 p.2) 0) ∗ levAts L lv)

variable (K : Dev nD × Cell → ℕ)

instance ctx_persistent : BI.Persistent (ctx m K) := by unfold ctx; infer_instance

theorem ctx_inv (c : Dev nD) (k : Cell) : ctx m K ⊢ (cellInv ER (plan m) (K (c, k)) (kcell c k) : sProp 𝕄) := by
  unfold ctx
  have e : (bigSep Finset.univ fun p : Dev nD × Cell => (cellInv ER (plan m) (K p) (kcell p.1 p.2) : sProp 𝕄)) ⊢ cellInv ER (plan m) (K (c, k)) (kcell c k) := bigSep_elim (Finset.mem_univ (c, k))
  iintro ⟨H, -, -⟩
  iapply e; iexact H
theorem ctx_reached (c : Dev nD) (k : Cell) : ctx m K ⊢ (reached ER (kcell c k) 0 : sProp 𝕄) := by
  unfold ctx
  have e : (bigSep Finset.univ fun p : Dev nD × Cell => (reached ER (kcell p.1 p.2) 0 : sProp 𝕄)) ⊢ reached ER (kcell c k) 0 := bigSep_elim (Finset.mem_univ (c, k))
  iintro ⟨-, H, -⟩
  iapply e; iexact H
theorem ctx_lev : ctx m K ⊢ (levAts L lv : sProp 𝕄) := by
  unfold ctx
  iintro ⟨-, -, H⟩
  iexact H

/-- The wait's credit for a cell, the waiter's place at it, the payer's token. -/
def chit (c : Dev nD) (k : Cell) (n : ℕ) : sProp 𝕄 := cred (tallyAt (kcell c k) () n)
def spot (c : Dev nD) (k : Cell) : sProp 𝕄 := atPos ER (kcell c k) 0 ∅ 0
def tok (c : Dev nD) (k : Cell) (d : Bool) : sProp 𝕄 := dutyTok ER (kcell c k) 0 d

/-! ## Rows -/

theorem row_pre (b : Fin 4) (i : S4x256x1024.Idx) (hi : (i 0).val = b.val) :
    (rowR ![b.val, 0, 0] (row_inb b)).emb (ix3 (0 : Fin 1) (i 1 : Fin 256) (i 2 : Fin 1024)) = i := by
  funext a; refine Fin.ext ?_
  match a with
  | ⟨0, _⟩ => change b.val + 1 * 0 = (i 0).val; omega
  | ⟨1, _⟩ => change 0 + 1 * (i 1).val = (i 1).val; omega
  | ⟨2, _⟩ => change 0 + 1 * (i 2).val = (i 2).val; omega
theorem rs_pre (s : Fin 3) (i : S3x256x1024.Idx) (hi : (i 0).val = s.val) :
    (rsR s).emb (ix3 (0 : Fin 1) (i 1 : Fin 256) (i 2 : Fin 1024)) = i := by
  funext a; refine Fin.ext ?_
  match a with
  | ⟨0, _⟩ => change s.val + 1 * 0 = (i 0).val; omega
  | ⟨1, _⟩ => change 0 + 1 * (i 1).val = (i 1).val; omega
  | ⟨2, _⟩ => change 0 + 1 * (i 2).val = (i 2).val; omega

theorem mem_rs (s : Fin 3) (i : S3x256x1024.Idx) : i ∈ (rsR s).set ↔ (i 0).val = s.val := by
  rw [Rect.mem_set_unit]
  constructor
  · intro h; have := h 0; change s.val ≤ (i 0).val ∧ (i 0).val < s.val + 1 at this; omega
  · intro h a
    match a with
    | ⟨0, _⟩ => change s.val ≤ (i 0).val ∧ (i 0).val < s.val + 1; omega
    | ⟨1, _⟩ => change 0 ≤ (i 1).val ∧ (i 1).val < 0 + 256; exact ⟨Nat.zero_le _, by have : (i 1).val < 256 := (i 1).isLt; omega⟩
    | ⟨2, _⟩ => change 0 ≤ (i 2).val ∧ (i 2).val < 0 + 1024; exact ⟨Nat.zero_le _, by have : (i 2).val < 1024 := (i 2).isLt; omega⟩
theorem rsRow_set (s : Fin 3) : (rsRow s).view.set = (rsR s).set := View.set_slice_whole cc0_scratch10 _
theorem rPts_congr (c : Dev nD) (s : Fin 3) {f g : Vec F S3x256x1024 .f32} (h : ∀ i : S3x256x1024.Idx, (i 0).val = s.val → f i = g i) :
    (rPts c s f : sProp 𝕄) = rPts c s g := by
  unfold rPts; exact pointsTo_congr fun i hi => h i ((mem_rs s i).mp (by rw [← rsRow_set]; exact hi))

/-- A row's two halves. -/
theorem xPts_split (c : Dev nD) (b : Fin 4) (f : Vec F S4x256x1024 .bf16) : (xPts c b fullShare f : sProp 𝕄) ⊢ iprop(xPts c b (half 0) f ∗ xPts c b (half 1) f) := by
  unfold xPts; exact (pointsTo_share halves).1
theorem xPts_merge (c : Dev nD) (b : Fin 4) (f : Vec F S4x256x1024 .bf16) : iprop(xPts c b (half 0) f ∗ xPts c b (half 1) f) ⊢ (xPts c b fullShare f : sProp 𝕄) := by
  unfold xPts; exact (pointsTo_share halves).2

/-! ## Waiting -/

section Wait
variable (c : Dev nD)

/-- A wait on a cell of one duty: what its landing hands over, and the cell closed, its counter at zero. -/
theorem cell_wait (kh : Fin 4 × Fin 3) {w : TpuEff nD τ sig (Elt F) Λ₀ .tc PUnit}
    {sm : SemLoc sig} {k' : ℕ} (hw : ∀ Q' : PUnit → sProp 𝕄, wpE (defs₀ (F := F)) 𝒱₀ (c : Thread nD τ) none Set.univ w Q' = waitSpec (c : Thread nD τ) Set.univ sm k' Q')
    (hsm : sm = csem (some kh)) (hk' : k' = unitsOf (some kh)) {α : Type} (k : PUnit → TP F α) (Q : α → sProp 𝕄) (n : ℕ) (D : CellTallies nD τ sig Unit) (hn : lvC (some kh) ≤ n) (hD : Above n D) :
    iprop(ctx m K ∗ chit c (some kh) (unitsOf (some kh)) ∗ ow c D ∗ spot c (some kh))
      ⊢ iprop(((ow c D ∗ semVal (kcell c (some kh)) 0 ∗ pay m c false (some kh)) -∗ runs c (k ⟨⟩) Q) -∗ runs c (.op w k) Q) := by
  subst hsm; subst hk'
  unfold ow chit spot runs
  iintro ⟨#H, Hc, ⟨%W, HO⟩, Hat⟩ HQ
  ihave #Hi := (ctx_inv m K c (some kh)) $$ H
  iapply (Rounds.wp_wait_rest_token 𝒱₀ ER (plan m) (c : Thread nD τ) none (κ := K (c, some kh))
      hw (Set.mem_univ _) () (O := D) (W := W) (R := 0) (m := 0) (T := ∅)
      ((Nat.zero_add _).trans (plan_expect m c kh).symm)) $$ [Hc HO Hat]
  · isplitr; · iexact Hi
    isplitl [Hc]; · iexact Hc
    isplitl [HO]; · iexact HO
    isplitr
    · iapply (may_wait c (csem (some kh)) n D (by rw [lv_kcell]; exact hn) hD)
      iapply (ctx_lev m K); iexact H
    iexact Hat
  iintro ⟨HO, Hat, -, Hp⟩
  ihave Hp := (Entails.of_eq (plan_rest m c kh)) $$ Hp
  imod (Rounds.cell_close ER (plan m) (Set.mem_univ (K (c, some kh))) (fun h => h) (R := 0 + 1) (plan_later m (kcell c (some kh)))) $$ [Hat] with Hz
  · isplitr; · iexact Hi
    iexact Hat
  iapply HQ
  isplitl [HO]; · iexists _; iexact HO
  isplitl [Hz]; · iexact Hz
  iexact Hp

theorem credit_x (b : Fin 4) : (xR b).view.dmaCredit = NX := rfl
theorem credit_a (b : Fin 4) : (aR b).view.dmaCredit = NR := rfl
theorem credit_r (s : Fin 3) : (rsRow s).view.dmaCredit = NR := rfl

/-! ## The gather -/

/-- What lands in a row is the row. -/
theorem land_x (b : Fin 4) (f : Vec F S4x256x1024 .bf16) (i : S4x256x1024.Idx) (hi : (i 0).val = b.val) :
    (xR b).view.write (Elt F) f ((xR b).view.read (Elt F) (XA m)) Finset.univ i = XA m i := by
  rw [← row_pre b i hi]
  exact write_in cc0_scratch0 (rowR ![b.val, 0, 0] (row_inb b)) f _ _

/-- The gather's copy `h` to the right neighbour, as one operation. -/
theorem agSend_op (h : Fin 3) (f : Vec F S4x256x1024 .bf16) (D : CellTallies nD τ sig Unit) (W : Waits sig Unit)
    {hsc : (xR (xrow h c) : Memref sig (Dev.tc (nxt c) : Thread nD τ).2.kind .vmem S1x256x1024 .bf16).view.ref.isScScratch = false}
    {hsrc : (xR (xrow h c)).view.WordExact} {hdst : (xR (xrow h c)).view.WordExact}
    {hsem : DmaTarget.Typed .vmem (.dma (dSem3 cc0_scratch12 h)) (.remote (Dev.tc (nxt c) : Thread nD τ) (xR (xrow h c) : Memref sig .tc .vmem S1x256x1024 .bf16) (.dma (dSem3 cc0_scratch11 h)) hsc)}
    {α : Type} {Q : α → sProp 𝕄} {k : PUnit → TP F α} :
    iprop(cellInv ER (plan m) (K (c, xs h)) (kcell c (xs h)) ∗ cellInv ER (plan m) (K (nxt c, xr h)) (kcell (nxt c) (xr h))
        ∗ xPts c (xrow h c) (half 1) (XA m) ∗ xPts (nxt c) (xrow h c) fullShare f ∗ owes (c : Thread nD τ) (D + tX c h) W
        ∗ dutyTok ER (kcell c (xs h)) 0 false ∗ reached ER (kcell c (xs h)) 0
        ∗ dutyTok ER (kcell (nxt c) (xr h)) 0 false ∗ reached ER (kcell (nxt c) (xr h)) 0)
      ⊢ iprop(((cred (tallyAt (kcell c (xs h)) () NX) ∗ owes (c : Thread nD τ) D W) -∗ runs c (k ⟨⟩) Q)
          -∗ runs c (.op (.enqueueDma (xR (xrow h c)) (.remote (Dev.tc (nxt c) : Thread nD τ) (xR (xrow h c)) (.dma (dSem3 cc0_scratch11 h)) hsc) (.dma (dSem3 cc0_scratch12 h)) hsrc hdst hsem) k) Q) :=
  Rounds.wp_send_pointsTo 𝒱₀ ER (plan m) (c : Thread nD τ) none (c' := (nxt c : Thread nD τ)) (κ₁ := K (c, xs h)) (κ₂ := K (nxt c, xr h))
    (src := xR (xrow h c)) (dst := xR (xrow h c)) (sS := .dma (dSem3 cc0_scratch11 h)) (sem := .dma (dSem3 cc0_scratch12 h))
    (r₁ := 0) (r₂ := 0) (d₁ := false) (d₂ := false) (fd := f)
    (plan_mem m c (0, h)) (plan_mem m (nxt c) (1, h))
    () () NX (credit_x _) (plan_amount m c (xs h) false) (plan_amount m (nxt c) (xr h) false) D rfl (W := W)
    (Entails.of_eq (plan_payload m c (xs h) false).symm)
    (by
      refine BIBase.Entails.trans ?_ (Entails.of_eq (plan_payload m (nxt c) (xr h) false).symm)
      have e := xPts_congr (nxt c) (xrow h c) fullShare (land_x m (xrow h c) f)
      show _ ⊢ xPts (nxt c) (xrow h (prv (nxt c))) fullShare (XA m)
      rw [prv_nxt]
      exact Entails.of_eq e)

theorem agSend_spec (h : Fin 3) (n : Dev nD) (hn : n = nxt c) (off : Fin 3 → Nat) (ho : ∀ a, off a + S1x256x1024.size a ≤ S4x256x1024.size a)
    (hw : (Rect.unit (s := S4x256x1024) off S1x256x1024.size ho).WholeWords (EltTy.packing .bf16)) (hoff : off = ![(xrow h c).val, 0, 0])
    (D : CellTallies nD τ sig Unit) (Q : PUnit → sProp 𝕄) :
    iprop(ctx m K ∗ xPts c (xrow h c) fullShare (XA m) ∗ (∃ f, xPts (nxt c) (xrow h c) fullShare f) ∗ ow c (D + tX c h) ∗ tok c (xs h) false ∗ tok (nxt c) (xr h) false)
      ⊢ iprop(((xPts c (xrow h c) (half 0) (XA m) ∗ chit c (xs h) NX ∗ ow c D) -∗ Q ⟨⟩) -∗ runs c (agSend h n off ho hw) Q) := by
  subst hoff; subst hn
  unfold agSend ow tok chit
  simp only [Prog.lift]
  iintro ⟨#H, Hx, ⟨%f, Hn⟩, ⟨%W, HO⟩, Ts, Tr⟩ HQ
  ihave Hx := (xPts_split c (xrow h c) (XA m)) $$ Hx
  icases Hx with ⟨Hk, Hx⟩
  iapply (agSend_op m K c h f D W) $$ [Hx Hn HO Ts Tr]
  · isplitr; · iapply (ctx_inv m K c (xs h)); iexact H
    isplitr; · iapply (ctx_inv m K (nxt c) (xr h)); iexact H
    isplitl [Hx]; · iexact Hx
    isplitl [Hn]; · iexact Hn
    isplitl [HO]; · iexact HO
    isplitl [Ts]; · iexact Ts
    isplitr; · iapply (ctx_reached m K c (xs h)); iexact H
    isplitl [Tr]; · iexact Tr
    iapply (ctx_reached m K (nxt c) (xr h)); iexact H
  iintro ⟨Hc, HO⟩
  unfold runs
  rw [wp_ret]; imodintro
  iapply HQ
  isplitl [Hk]; · iexact Hk
  isplitl [Hc]; · iexact Hc
  iexists W; iexact HO

/-- The counter of a cell at zero. -/
def zero (c : Dev nD) (k : Cell) : sProp 𝕄 := semVal (kcell c k) 0

theorem agWait_spec (h : Fin 3) (off : Fin 3 → Nat) (ho : ∀ a, off a + S1x256x1024.size a ≤ S4x256x1024.size a)
    (hw : (Rect.unit (s := S4x256x1024) off S1x256x1024.size ho).WholeWords (EltTy.packing .bf16)) (hoff : off = ![(xrow h c).val, 0, 0])
    (D : CellTallies nD τ sig Unit) (hD : Above (2 + h.val) D) (Q : PUnit → sProp 𝕄) :
    iprop(ctx m K ∗ xPts c (xrow h c) (half 0) (XA m) ∗ chit c (xs h) NX ∗ chit c (xr h) NX ∗ ow c D ∗ spot c (xs h) ∗ spot c (xr h))
      ⊢ iprop(((xPts c (xrow h c) fullShare (XA m) ∗ xPts c (xrow h (prv c)) fullShare (XA m) ∗ ow c D ∗ zero c (xs h) ∗ zero c (xr h)) -∗ Q ⟨⟩) -∗ runs c (agWait h off ho hw) Q) := by
  subst hoff
  unfold agWait
  simp only [Prog.lift, Prog.bind_op, Prog.bind_ret]
  iintro ⟨#H, Hk, Cs, Cr, HO, As, Ar⟩ HQ
  iapply (cell_wait m K c (0, h) (wpE_waitDma2_eq 𝒱₀ (c : Thread nD τ) none Set.univ (dst := xR (xrow h c))) rfl (credit_x _) _ Q (2 + h.val) D (Nat.zero_le _) hD) $$ [Cs HO As]
  · isplitr; · iexact H
    isplitl [Cs]; · iexact Cs
    isplitl [HO]; · iexact HO
    iexact As
  iintro ⟨HO, Zs, Hx⟩
  iapply (cell_wait m K c (1, h) (wpE_waitDma2_eq 𝒱₀ (c : Thread nD τ) none Set.univ (dst := xR (xrow h c))) rfl (credit_x _) _ Q (2 + h.val) D (Nat.le_refl _) hD) $$ [Cr HO Ar]
  · isplitr; · iexact H
    isplitl [Cr]; · iexact Cr
    isplitl [HO]; · iexact HO
    iexact Ar
  iintro ⟨HO, Zr, Hn⟩
  unfold runs pay zero
  rw [wp_ret]; imodintro
  iapply HQ
  isplitl [Hk Hx]
  · iapply (xPts_merge c (xrow h c) (XA m))
    isplitl [Hk]; · iexact Hk
    iexact Hx
  isplitl [Hn]; · iexact Hn
  isplitl [HO]; · iexact HO
  isplitl [Zs] <;> iassumption

/-! ## The sum -/

/-- What lands in receive row `s` of the right neighbour. -/
theorem land_r (s : Fin 3) (f : Vec F S3x256x1024 .f32) (i : S3x256x1024.Idx) (hi : (i 0).val = s.val) :
    (rsRow s).view.write (Elt F) f ((aR (arow s c)).view.read (Elt F) (RS m s.val c)) Finset.univ i = RB m (nxt c) i := by
  obtain rfl : (i 0 : Fin 3) = s := Fin.ext hi
  refine (congrArg _ (rs_pre (i 0) i rfl).symm).trans ?_
  refine (write_in cc0_scratch10 (rsR (i 0)) f _ (ix3 (0 : Fin 1) (i 1 : Fin 256) (i 2 : Fin 1024))).trans ?_
  unfold RB
  rw [prv_nxt]
  exact congrArg (RS m (i 0).val c) (row_pre (arow (i 0) c) (ix3 (arow (i 0) c) (i 1 : Fin 256) (i 2 : Fin 1024)) rfl)

/-- The sum's copy `s` to the right neighbour, as one operation. -/
theorem rsSend_op (s : Fin 3) (f : Vec F S3x256x1024 .f32) (D : CellTallies nD τ sig Unit) (W : Waits sig Unit)
    {hsc : (rsRow s : Memref sig (Dev.tc (nxt c) : Thread nD τ).2.kind .vmem S1x256x1024 .f32).view.ref.isScScratch = false}
    {hsrc : (aR (arow s c)).view.WordExact} {hdst : (rsRow s).view.WordExact}
    {hsem : DmaTarget.Typed .vmem (.dma (dSem3 cc0_scratch14 s)) (.remote (Dev.tc (nxt c) : Thread nD τ) (rsRow s : Memref sig .tc .vmem S1x256x1024 .f32) (.dma (dSem3 cc0_scratch13 s)) hsc)}
    {α : Type} {Q : α → sProp 𝕄} {k : PUnit → TP F α} :
    iprop(cellInv ER (plan m) (K (c, ss s)) (kcell c (ss s)) ∗ cellInv ER (plan m) (K (nxt c, sr s)) (kcell (nxt c) (sr s))
        ∗ aPts c (arow s c) (RS m s.val c) ∗ rPts (nxt c) s f ∗ owes (c : Thread nD τ) (D + tS c s) W
        ∗ dutyTok ER (kcell c (ss s)) 0 false ∗ reached ER (kcell c (ss s)) 0
        ∗ dutyTok ER (kcell (nxt c) (sr s)) 0 false ∗ reached ER (kcell (nxt c) (sr s)) 0)
      ⊢ iprop(((cred (tallyAt (kcell c (ss s)) () NR) ∗ owes (c : Thread nD τ) D W) -∗ runs c (k ⟨⟩) Q)
          -∗ runs c (.op (.enqueueDma (aR (arow s c)) (.remote (Dev.tc (nxt c) : Thread nD τ) (rsRow s) (.dma (dSem3 cc0_scratch13 s)) hsc) (.dma (dSem3 cc0_scratch14 s)) hsrc hdst hsem) k) Q) :=
  Rounds.wp_send_pointsTo 𝒱₀ ER (plan m) (c : Thread nD τ) none (c' := (nxt c : Thread nD τ)) (κ₁ := K (c, ss s)) (κ₂ := K (nxt c, sr s))
    (src := aR (arow s c)) (dst := rsRow s) (sS := .dma (dSem3 cc0_scratch13 s)) (sem := .dma (dSem3 cc0_scratch14 s))
    (r₁ := 0) (r₂ := 0) (d₁ := false) (d₂ := false) (fd := f)
    (plan_mem m c (2, s)) (plan_mem m (nxt c) (3, s))
    () () NR (credit_r _) (plan_amount m c (ss s) false) (plan_amount m (nxt c) (sr s) false) D rfl (W := W)
    (Entails.of_eq (plan_payload m c (ss s) false).symm)
    (Entails.of_eq ((rPts_congr (nxt c) s (land_r m c s f)).trans (plan_payload m (nxt c) (sr s) false).symm))

theorem rsSend_spec (s : Fin 3) (n : Dev nD) (hn : n = nxt c) (off : Fin 3 → Nat) (ho : ∀ a, off a + S1x256x1024.size a ≤ S4x256x1024.size a)
    (hoff : off = ![(arow s c).val, 0, 0]) (D : CellTallies nD τ sig Unit) (Q : PUnit → sProp 𝕄) :
    iprop(ctx m K ∗ aPts c (arow s c) (RS m s.val c) ∗ (∃ f, rPts (nxt c) s f) ∗ ow c (D + tS c s) ∗ tok c (ss s) false ∗ tok (nxt c) (sr s) false)
      ⊢ iprop(((chit c (ss s) NR ∗ ow c D) -∗ Q ⟨⟩) -∗ runs c (rsSend s n off ho) Q) := by
  subst hoff; subst hn
  unfold rsSend ow tok chit
  simp only [Prog.lift]
  iintro ⟨#H, Hx, ⟨%f, Hn⟩, ⟨%W, HO⟩, Ts, Tr⟩ HQ
  iapply (rsSend_op m K c s f D W) $$ [Hx Hn HO Ts Tr]
  · isplitr; · iapply (ctx_inv m K c (ss s)); iexact H
    isplitr; · iapply (ctx_inv m K (nxt c) (sr s)); iexact H
    isplitl [Hx]; · iexact Hx
    isplitl [Hn]; · iexact Hn
    isplitl [HO]; · iexact HO
    isplitl [Ts]; · iexact Ts
    isplitr; · iapply (ctx_reached m K c (ss s)); iexact H
    isplitl [Tr]; · iexact Tr
    iapply (ctx_reached m K (nxt c) (sr s)); iexact H
  iintro ⟨Hc, HO⟩
  unfold runs
  rw [wp_ret]; imodintro
  iapply HQ
  isplitl [Hc]; · iexact Hc
  iexists W; iexact HO

/-- What the addition leaves in its row. -/
theorem add_row (s : Fin 3) (i : S4x256x1024.Idx) (hi : (i 0).val = (arow s (prv c)).val) :
    (accB.access (rowR ![(arow s (prv c)).val, 0, 0] (row_inb _))).write (Elt F) (PS m c)
      (k0_pay239 (accB.view.readAt (Elt F) (rowR ![(arow s (prv c)).val, 0, 0] (row_inb _)).toLoadRect (PS m c)) (rsB.view.readAt (Elt F) (rsR s).toLoadRect (RB m c))) Finset.univ i
      = RS m (s.val + 1) c i := by
  refine (congrArg _ (row_pre (arow s (prv c)) i hi).symm).trans ?_
  refine (write_in cc0_scratch9 (rowR ![(arow s (prv c)).val, 0, 0] (row_inb _)) (PS m c) _ (ix3 (0 : Fin 1) (i 1 : Fin 256) (i 2 : Fin 1024))).trans ?_
  unfold k0_pay239
  rw [shapeCast_self]
  have e1 : (rowR ![(arow s (prv c)).val, 0, 0] (row_inb _)).emb (ix3 (0 : Fin 1) (i 1 : Fin 256) (i 2 : Fin 1024)) = i := row_pre _ i hi
  have e2 : (rsR s).emb (ix3 (0 : Fin 1) (i 1 : Fin 256) (i 2 : Fin 1024)) = ix3 s (i 1 : Fin 256) (i 2 : Fin 1024) := rs_pre s (ix3 s (i 1 : Fin 256) (i 2 : Fin 1024)) rfl
  show FloatOps.addf (PS m c ((rowR ![(arow s (prv c)).val, 0, 0] (row_inb _)).emb (ix3 (0 : Fin 1) (i 1 : Fin 256) (i 2 : Fin 1024)))) (RB m c ((rsR s).emb (ix3 (0 : Fin 1) (i 1 : Fin 256) (i 2 : Fin 1024))))
    = FloatOps.addf (PS m c i) (RS m s.val (prv c) i)
  rw [e1, e2]
  refine congrArg (FloatOps.addf _) (congrArg (RS m s.val (prv c)) ?_)
  funext a; refine Fin.ext ?_
  match a with
  | ⟨0, _⟩ => exact hi.symm
  | ⟨1, _⟩ => rfl
  | ⟨2, _⟩ => rfl

theorem rsFinish_spec (s : Fin 3) (off : Fin 3 → Nat) (ho : ∀ a, off a + S1x256x1024.size a ≤ S4x256x1024.size a) (hoff : off = ![(arow s c).val, 0, 0])
    (off5 : Fin 3 → Nat) (ho5 : ∀ a, off5 a + S1x256x1024.size a ≤ S4x256x1024.size a) (hoff5 : off5 = ![(arow s (prv c)).val, 0, 0])
    (D : CellTallies nD τ sig Unit) (hD : Above (5 + s.val) D) (Q : PUnit → sProp 𝕄) :
    iprop(ctx m K ∗ aPts c (arow s (prv c)) (PS m c) ∗ chit c (ss s) NR ∗ chit c (sr s) NR ∗ ow c D ∗ spot c (ss s) ∗ spot c (sr s))
      ⊢ iprop(((aPts c (arow s (prv c)) (RS m (s.val + 1) c) ∗ aPts c (arow s c) (RS m s.val c) ∗ rPts c s (RB m c) ∗ ow c D ∗ zero c (ss s) ∗ zero c (sr s)) -∗ Q ⟨⟩)
        -∗ runs c (rsFinish s off ho off5 ho5) Q) := by
  subst hoff; subst hoff5
  unfold rsFinish
  simp only [Prog.lift, Prog.bind_op, Prog.bind_ret]
  iintro ⟨#H, Ha, Cs, Cr, HO, As, Ar⟩ HQ
  iapply (cell_wait m K c (2, s) (wpE_waitDma2_eq 𝒱₀ (c : Thread nD τ) none Set.univ (dst := aR (arow s c))) rfl (credit_a _) _ Q (5 + s.val) D (Nat.zero_le _) hD) $$ [Cs HO As]
  · isplitr; · iexact H
    isplitl [Cs]; · iexact Cs
    isplitl [HO]; · iexact HO
    iexact As
  iintro ⟨HO, Zs, Hb⟩
  iapply (cell_wait m K c (3, s) (wpE_waitDma2_eq 𝒱₀ (c : Thread nD τ) none Set.univ (dst := rsRow s)) rfl (credit_r _) _ Q (5 + s.val) D (Nat.le_refl _) hD) $$ [Cr HO Ar]
  · isplitr; · iexact H
    isplitl [Cr]; · iexact Cr
    isplitl [HO]; · iexact HO
    iexact Ar
  iintro ⟨HO, Zr, Hr⟩
  unfold runs pay zero aPts rPts
  iapply (wp_load_rect 𝒱₀ (c : Thread nD τ) none Set.univ (m := accB) (Finset.Subset.refl _)) $$ Ha; iintro Ha
  iapply (wp_load_rect 𝒱₀ (c : Thread nD τ) none Set.univ (m := rsB) (Finset.Subset.refl _)) $$ Hr; iintro Hr
  iapply (wp_load_rect 𝒱₀ (c : Thread nD τ) none Set.univ (m := accB) (Finset.Subset.refl _)) $$ Ha; iintro Ha
  iapply (wp_store 𝒱₀ (c : Thread nD τ) none Set.univ (m := accB) (r := rowR ![(arow s (prv c)).val, 0, 0] (row_inb _)) (Mk := Finset.univ) (S := (accB.access (rowR ![(arow s (prv c)).val, 0, 0] (row_inb _))).set) (Finset.Subset.refl _)) $$ Ha; iintro Ha
  rw [wp_ret]; imodintro
  iapply HQ
  isplitl [Ha]
  · have e := aPts_congr c (arow s (prv c)) (add_row m c s)
    unfold aPts at e
    iapply (Entails.of_eq e)
    iexact Ha
  isplitl [Hb]; · iexact Hb
  isplitl [Hr]; · iexact Hr
  isplitl [HO]; · iexact HO
  isplitl [Zs] <;> iassumption

/-! ## Meeting the neighbours -/

/-- The empty rows that a device gives away at the barrier. -/
def empties (c : Dev nD) : sProp 𝕄 := barPay (prv c)

theorem meet_spec (Q : PUnit → sProp 𝕄) :
    iprop(ctx m K ∗ empties c ∗ chit c bar 2 ∗ ow c (debt c) ∗ spot c bar ∗ tok (prv c) bar true ∗ tok (nxt c) bar false)
      ⊢ iprop(((barPay c ∗ ow c (debt0 c) ∗ zero c bar) -∗ Q ⟨⟩) -∗ runs c (meet c) Q) := by
  have e1 : (⟨k0_dev1 c, k0_dev1_lt c⟩ : Dev nD) = prv c := Fin.ext (k0_dev1_eq c)
  have e2 : (⟨k0_dev2 c, k0_dev2_lt c⟩ : Dev nD) = nxt c := Fin.ext (k0_dev2_eq c)
  unfold meet runs
  rw [e1, e2]
  simp only [semSignalWord, semWaitWord, Prog.lift, Prog.bind_op, Prog.bind_ret, Prog.pure_eq_ret]
  unfold ow chit spot tok empties zero
  have p1 : (barPay (prv c) : sProp 𝕄) = (plan m).payload ((prv c : Thread nD τ), .reg barS) 0 true := (plan_payload m (prv c) bar true).symm
  have p2 : (iprop(emp) : sProp 𝕄) = (plan m).payload ((nxt c : Thread nD τ), .reg barS) 0 false := (plan_payload m (nxt c) bar false).symm
  have p3 : bigSep ((plan m).duties ((c : Thread nD τ), .reg barS) 0 \ ∅) (fun d => (plan m).payload ((c : Thread nD τ), .reg barS) 0 d) = iprop(emp ∗ barPay c) := plan_rest_bar m c
  iintro ⟨#H, He, Hc, ⟨%W, HO⟩, Hat, Tp, Tn⟩ HQ
  iapply (Rounds.wp_signal 𝒱₀ ER (plan m) (c : Thread nD τ) none (dst := (prv c : Thread nD τ)) (κ := K (prv c, bar))
      (d := true) (plan_mem_bar m (prv c) true) ((plan_amount m (prv c) bar true).trans (by decide)) () (debtR c) rfl) $$ [HO Tp He]
  · isplitr; · iapply (ctx_inv m K (prv c) bar); iexact H
    isplitl [HO]; · iexact HO
    isplitl [Tp]; · iexact Tp
    isplitl [He]; · iapply (Entails.of_eq p1); iexact He
    iapply (ctx_reached m K (prv c) bar); iexact H
  iintro HO
  iapply (Rounds.wp_signal 𝒱₀ ER (plan m) (c : Thread nD τ) none (dst := (nxt c : Thread nD τ)) (κ := K (nxt c, bar))
      (d := false) (plan_mem_bar m (nxt c) false) ((plan_amount m (nxt c) bar false).trans (by decide)) () (debt0 c) rfl) $$ [HO Tn]
  · isplitr; · iapply (ctx_inv m K (nxt c) bar); iexact H
    isplitl [HO]; · iexact HO
    isplitl [Tn]; · iexact Tn
    isplitr; · iapply (Entails.of_eq p2); iempintro
    iapply (ctx_reached m K (nxt c) bar); iexact H
  iintro HO
  iapply (Rounds.wp_wait_rest_token 𝒱₀ ER (plan m) (c : Thread nD τ) none (κ := K (c, bar))
      (wpE_semWait_eq 𝒱₀ (c : Thread nD τ) none Set.univ) (Set.mem_univ _) () (O := debt0 c) (W := W) (R := 0) (m := 0) (T := ∅)
      ((show 0 + (2#32 : BitVec 32).toNat = 2 by decide).trans (plan_expect_bar m c).symm)) $$ [Hc HO Hat]
  · isplitr; · iapply (ctx_inv m K c bar); iexact H
    isplitl [Hc]; · iexact Hc
    isplitl [HO]; · iexact HO
    isplitr
    · iapply (may_wait c (csem bar) 1 (debt0 c) (by rw [lv_kcell]; exact Nat.le_refl _) (above0 c 1 (by omega)))
      iapply (ctx_lev m K); iexact H
    iexact Hat
  iintro ⟨HO, Hat, -, Hp⟩
  ihave Hp := (Entails.of_eq p3) $$ Hp
  icases Hp with ⟨-, Hp⟩
  imod (Rounds.cell_close ER (plan m) (Set.mem_univ (K (c, bar))) (fun h => h) (R := 0 + 1) (plan_later m (kcell c bar))) $$ [Hat] with Hz
  · isplitr; · iapply (ctx_inv m K c bar); iexact H
    iexact Hat
  rw [wp_ret]; imodintro
  iapply HQ
  isplitl [Hp]; · iexact Hp
  isplitl [HO]; · iexists _; iexact HO
  iexact Hz

end Wait

end Cert.KernelIdeal.Att
end
-- ==== Proof.Work.lean ====
module

public import proofs.«01_k».proof.Proof.Talk

/-!
# All of one device's work

From what the launch and the barrier hand a device, through its four batches and six copies, to its block of the result:
every buffer given back, nothing owed, every counter at zero.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

variable (K : Dev nD × Cell → ℕ) (c : Dev nD)

/-! ## The steps, their rows named by the order in which the device takes the batches -/

theorem bat3 : bat c 3 = c := by revert c; decide
theorem xrow0 : bat c 3 = xrow 0 c := by revert c; decide
theorem xrow1 : bat c 2 = xrow 1 c := by revert c; decide
theorem xrow2 : bat c 1 = xrow 2 c := by revert c; decide
theorem xrow0p : bat c 2 = xrow 0 (prv c) := by revert c; decide
theorem xrow1p : bat c 1 = xrow 1 (prv c) := by revert c; decide
theorem xrow2p : bat c 0 = xrow 2 (prv c) := by revert c; decide
theorem arow0 : bat c 2 = arow 0 c := by revert c; decide
theorem arow1 : bat c 1 = arow 1 c := by revert c; decide
theorem arow2 : bat c 0 = arow 2 c := by revert c; decide
theorem arow0p : bat c 1 = arow 0 (prv c) := by revert c; decide
theorem arow1p : bat c 0 = arow 1 (prv c) := by revert c; decide
theorem arow2p : bat c 3 = arow 2 (prv c) := by revert c; decide

/-- A hop of the gather: the credit and the places for its waits, the tokens for its copy. -/
def hop (h : Fin 3) : sProp 𝕄 := iprop((tok c (xs h) false ∗ tok (nxt c) (xr h) false) ∗ chit c (xr h) NX ∗ spot c (xs h) ∗ spot c (xr h))
/-- A hop of the sum. -/
def lap (s : Fin 3) : sProp 𝕄 := iprop((tok c (ss s) false ∗ tok (nxt c) (sr s) false) ∗ chit c (sr s) NR ∗ spot c (ss s) ∗ spot c (sr s))
/-- The barrier's. -/
def door : sProp 𝕄 := iprop(chit c bar 2 ∗ spot c bar ∗ tok (prv c) bar true ∗ tok (nxt c) bar false)
/-- The wait's part of a hop, its copy on the way. -/
def hopW (h : Fin 3) : sProp 𝕄 := iprop(chit c (xs h) NX ∗ chit c (xr h) NX ∗ spot c (xs h) ∗ spot c (xr h))
def lapW (s : Fin 3) : sProp 𝕄 := iprop(chit c (ss s) NR ∗ chit c (sr s) NR ∗ spot c (ss s) ∗ spot c (sr s))
/-- A hop done. -/
def hopZ (h : Fin 3) : sProp 𝕄 := iprop(zero c (xs h) ∗ zero c (xr h))
def lapZ (s : Fin 3) : sProp 𝕄 := iprop(zero c (ss s) ∗ zero c (sr s))

theorem agSend_run (h : Fin 3) (b : Fin 4) (hb : b = xrow h c) (n : Dev nD) (hn : n = nxt c) (off : Fin 3 → Nat) (ho : ∀ a, off a + S1x256x1024.size a ≤ S4x256x1024.size a)
    (hw : (Rect.unit (s := S4x256x1024) off S1x256x1024.size ho).WholeWords (EltTy.packing .bf16)) (hoff : off = ![b.val, 0, 0])
    (D : CellTallies nD τ sig Unit) (Q : PUnit → sProp 𝕄) :
    iprop(ctx m K ∗ xPts c b fullShare (XA m) ∗ (∃ f, xPts (nxt c) b fullShare f) ∗ ow c (D + tX c h) ∗ hop c h)
      ⊢ iprop(((xPts c b (half 0) (XA m) ∗ hopW c h ∗ ow c D) -∗ Q ⟨⟩) -∗ runs c (agSend h n off ho hw) Q) := by
  subst hb
  unfold hop hopW
  iintro ⟨#H, Hx, Hn, HO, Ht, Hr⟩ HQ
  iapply (agSend_spec m K c h n hn off ho hw hoff D Q) $$ [Hx Hn HO Ht]
  · isplitr; · iexact H
    isplitl [Hx]; · iexact Hx
    isplitl [Hn]; · iexact Hn
    isplitl [HO]; · iexact HO
    iexact Ht
  iintro ⟨Hx, Hc, HO⟩
  iapply HQ
  isplitl [Hx]; · iexact Hx
  isplitl [Hc Hr]; · isplitl [Hc] <;> iassumption
  iexact HO

theorem agWait_run (h : Fin 3) (b b' : Fin 4) (hb : b = xrow h c) (hb' : b' = xrow h (prv c)) (off : Fin 3 → Nat) (ho : ∀ a, off a + S1x256x1024.size a ≤ S4x256x1024.size a)
    (hw : (Rect.unit (s := S4x256x1024) off S1x256x1024.size ho).WholeWords (EltTy.packing .bf16)) (hoff : off = ![b.val, 0, 0])
    (D : CellTallies nD τ sig Unit) (hD : Above (2 + h.val) D) (Q : PUnit → sProp 𝕄) :
    iprop(ctx m K ∗ xPts c b (half 0) (XA m) ∗ hopW c h ∗ ow c D)
      ⊢ iprop(((xPts c b fullShare (XA m) ∗ xPts c b' fullShare (XA m) ∗ ow c D ∗ hopZ c h) -∗ Q ⟨⟩) -∗ runs c (agWait h off ho hw) Q) := by
  subst hb; subst hb'
  unfold hopW hopZ
  iintro ⟨#H, Hx, ⟨Hs, Hr, Hp⟩, HO⟩ HQ
  iapply (agWait_spec m K c h off ho hw hoff D hD Q) $$ [Hx Hs Hr Hp HO]
  · isplitr; · iexact H
    isplitl [Hx]; · iexact Hx
    isplitl [Hs]; · iexact Hs
    isplitl [Hr]; · iexact Hr
    isplitl [HO] <;> iassumption
  iexact HQ

theorem rsSend_run (s : Fin 3) (b : Fin 4) (hb : b = arow s c) (t : ℕ) (ht : t = s.val) (n : Dev nD) (hn : n = nxt c) (off : Fin 3 → Nat) (ho : ∀ a, off a + S1x256x1024.size a ≤ S4x256x1024.size a)
    (hoff : off = ![b.val, 0, 0]) (D : CellTallies nD τ sig Unit) (Q : PUnit → sProp 𝕄) :
    iprop(ctx m K ∗ aPts c b (RS m t c) ∗ (∃ f, rPts (nxt c) s f) ∗ ow c (D + tS c s) ∗ lap c s)
      ⊢ iprop(((lapW c s ∗ ow c D) -∗ Q ⟨⟩) -∗ runs c (rsSend s n off ho) Q) := by
  subst hb; subst ht
  unfold lap lapW
  iintro ⟨#H, Hx, Hn, HO, Ht, Hr⟩ HQ
  iapply (rsSend_spec m K c s n hn off ho hoff D Q) $$ [Hx Hn HO Ht]
  · isplitr; · iexact H
    isplitl [Hx]; · iexact Hx
    isplitl [Hn]; · iexact Hn
    isplitl [HO]; · iexact HO
    iexact Ht
  iintro ⟨Hc, HO⟩
  iapply HQ
  isplitl [Hc Hr]; · isplitl [Hc] <;> iassumption
  iexact HO

theorem rsFinish_run (s : Fin 3) (b b' : Fin 4) (hb : b = arow s c) (hb' : b' = arow s (prv c)) (t t' : ℕ) (ht : t = s.val) (ht' : t' = s.val + 1)
    (off : Fin 3 → Nat) (ho : ∀ a, off a + S1x256x1024.size a ≤ S4x256x1024.size a) (hoff : off = ![b.val, 0, 0])
    (off5 : Fin 3 → Nat) (ho5 : ∀ a, off5 a + S1x256x1024.size a ≤ S4x256x1024.size a) (hoff5 : off5 = ![b'.val, 0, 0])
    (D : CellTallies nD τ sig Unit) (hD : Above (5 + s.val) D) (Q : PUnit → sProp 𝕄) :
    iprop(ctx m K ∗ aPts c b' (PS m c) ∗ lapW c s ∗ ow c D)
      ⊢ iprop(((aPts c b' (RS m t' c) ∗ aPts c b (RS m t c) ∗ rPts c s (RB m c) ∗ ow c D ∗ lapZ c s) -∗ Q ⟨⟩) -∗ runs c (rsFinish s off ho off5 ho5) Q) := by
  subst hb; subst hb'; subst ht; subst ht'
  unfold lapW lapZ
  iintro ⟨#H, Hx, ⟨Hs, Hr, Hp⟩, HO⟩ HQ
  iapply (rsFinish_spec m K c s off ho hoff off5 ho5 hoff5 D hD Q) $$ [Hx Hs Hr Hp HO]
  · isplitr; · iexact H
    isplitl [Hx]; · iexact Hx
    isplitl [Hs]; · iexact Hs
    isplitl [Hr]; · iexact Hr
    isplitl [HO] <;> iassumption
  iexact HQ

theorem castX_run (b : Fin 4) (hb : b = c) (off : Fin 3 → Nat) (ho : ∀ a, off a + S1x256x1024.size a ≤ S4x256x1024.size a) (hp : (Rect.unit (s := S4x256x1024) off S1x256x1024.size ho).PackedRows (EltTy.packing .bf16))
    (hoff : off = ![c.val, 0, 0]) (Q : PUnit → sProp 𝕄) :
    iprop(held c cc0_stg0_0 (xstg m c) ∗ (∃ f, xPts c b fullShare f))
      ⊢ iprop(((held c cc0_stg0_0 (xstg m c) ∗ xPts c b fullShare (XA m)) -∗ Q ⟨⟩) -∗ runs c (castX off ho hp) Q) := by
  subst hb; exact castX_spec m b off ho hp hoff Q

theorem emit_run (b : Fin 4) (hb : b = c) (off : Fin 3 → Nat) (ho : ∀ a, off a + S1x256x1024.size a ≤ S4x256x1024.size a) (hoff : off = ![c.val, 0, 0]) (Q : PUnit → sProp 𝕄) :
    iprop(aPts c b (RS m 3 c) ∗ (∃ f, held c cc0_stg3_0 f))
      ⊢ iprop(((aPts c b (RS m 3 c) ∗ held c cc0_stg3_0 (outOf m c)) -∗ Q ⟨⟩) -∗ runs c (emit off ho) Q) := by
  subst hb; exact emit_spec m b off ho hoff Q

/-- What a batch uses besides its rows and the debt. -/
def kit : sProp 𝕄 := iprop(held c cc0_scratch1 (k0_pay2 (wqstg m c)) ∗ held c cc0_scratch2 (k0_pay3 (wostg m c)) ∗ (∃ f, held c cc0_scratch3 f) ∗ bufs c)

theorem batch_run (O : CellTallies nD τ sig Unit) (hO : Above 0 O) (r r' : Fin 4) (r5 : Fin 5) (hr5 : (c.val + r5.val) % 4 = (bat c r).val) (more : Bool) (q : PosShare TreeShare) (Q : PUnit → sProp 𝕄) :
    iprop(ctx m K ∗ xPts c (bat c r) q (XA m) ∗ slots m c true (bat c r) ∗ kit m c ∗ ow c O ∗ (∃ f, aPts c (bat c r) f))
      ⊢ iprop(((xPts c (bat c r) q (XA m) ∗ slots m c more (bat c r') ∗ kit m c ∗ ow c O ∗ aPts c (bat c r) (PS m c)) -∗ Q ⟨⟩) -∗ runs c (batch c r r' r5 more) Q) := by
  unfold kit
  iintro ⟨#H, Hx, Hs, ⟨H1, H2, H3, Hb⟩, HO, Ha⟩ HQ
  iapply (batch_spec m c O (ctx m K) (may_fetch c O hO _ (ctx_lev m K)) r r' r5 hr5 more q Q) $$ [Hx Hs H1 H2 H3 Hb HO Ha]
  · isplitr; · iexact H
    isplitl [Hx]; · iexact Hx
    isplitl [Hs]; · iexact Hs
    isplitl [H1 H2 H3 Hb HO]
    · unfold gear
      isplitl [H1]; · iexact H1
      isplitl [H2]; · iexact H2
      isplitl [H3]; · iexact H3
      isplitl [Hb] <;> iassumption
    iexact Ha
  unfold gear
  iintro ⟨Hx, Hs, ⟨H1, H2, H3, Hb, HO⟩, Ha⟩
  iapply HQ
  isplitl [Hx]; · iexact Hx
  isplitl [Hs]; · iexact Hs
  isplitl [H1 H2 H3 Hb]
  · isplitl [H1]; · iexact H1
    isplitl [H2]; · iexact H2
    isplitl [H3] <;> iassumption
  isplitl [HO] <;> iassumption

/-! ## The whole -/

/-- The neighbour's rows, named by this device's order. -/
theorem barPay_eq : (barPay c : sProp 𝕄) = iprop(((∃ f, xPts (nxt c) (bat c 3) fullShare f) ∗ (∃ f, xPts (nxt c) (bat c 2) fullShare f) ∗ (∃ f, xPts (nxt c) (bat c 1) fullShare f))
    ∗ (∃ f, rPts (nxt c) 0 f) ∗ (∃ f, rPts (nxt c) 1 f) ∗ (∃ f, rPts (nxt c) 2 f)) := by
  unfold barPay; rw [xrow0, xrow1, xrow2]

/-- The blocks of the arguments, staged. -/
def args : sProp 𝕄 := iprop(held c cc0_stg0_0 (xstg m c) ∗ held c cc0_stg1_0 (wqstg m c) ∗ held c cc0_stg2_0 (wostg m c))

/-- What a device starts with. -/
def before : sProp 𝕄 :=
  iprop(empties c ∗ args m c ∗ (∃ f, held c cc0_stg3_0 f) ∗ (∃ f, xPts c (bat c 3) fullShare f)
    ∗ ((∃ f, held c cc0_scratch1 f) ∗ (∃ f, held c cc0_scratch2 f) ∗ (∃ f, held c cc0_scratch3 f) ∗ bufs c)
    ∗ (free m c 0 ∗ free m c 1)
    ∗ ((∃ f, aPts c (bat c 0) f) ∗ (∃ f, aPts c (bat c 1) f) ∗ (∃ f, aPts c (bat c 2) f) ∗ (∃ f, aPts c (bat c 3) f))
    ∗ door c ∗ (hop c 0 ∗ hop c 1 ∗ hop c 2) ∗ (lap c 0 ∗ lap c 1 ∗ lap c 2) ∗ ow c (debt c))

/-- What it ends with. -/
def after : sProp 𝕄 :=
  iprop(args m c ∗ held c cc0_stg3_0 (outOf m c)
    ∗ (xPts c (bat c 0) fullShare (XA m) ∗ xPts c (bat c 1) fullShare (XA m) ∗ xPts c (bat c 2) fullShare (XA m) ∗ xPts c (bat c 3) fullShare (XA m))
    ∗ kit m c ∗ (free m c 0 ∗ free m c 1)
    ∗ ((∃ f, aPts c (bat c 0) f) ∗ (∃ f, aPts c (bat c 1) f) ∗ (∃ f, aPts c (bat c 2) f) ∗ (∃ f, aPts c (bat c 3) f))
    ∗ (rPts c 0 (RB m c) ∗ rPts c 1 (RB m c) ∗ rPts c 2 (RB m c))
    ∗ zero c bar ∗ (hopZ c 0 ∗ hopZ c 1 ∗ hopZ c 2) ∗ (lapZ c 0 ∗ lapZ c 1 ∗ lapZ c 2) ∗ ow c 0)

set_option maxHeartbeats 1600000 in
theorem work_spec (Q : PUnit → sProp 𝕄) : iprop(ctx m K ∗ before m c) ⊢ iprop((after m c -∗ Q ⟨⟩) -∗ runs c (work c) Q) := by
  have dv (n : ℕ) (h : n < nD) (e : n = (c.val + 1) % 4) : (⟨n, h⟩ : Dev nD) = nxt c := Fin.ext e
  have o2 (r : Fin 4) : k0_off2 c (BitVec.ofNat 32 (1 + r.val)) = ![(bat c r).val, 0, 0] := k0_off2_eq c r
  have o5 (r : Fin 4) (s : Fin 5) (h : (c.val + s.val) % 4 = (bat c r).val) : k0_off5 c (BitVec.ofNat 32 s.val) = ![(bat c r).val, 0, 0] := by rw [k0_off5_eq, h]
  have q3 : (c.val + (4 : Fin 5).val) % 4 = (bat c 3).val := by revert c; decide
  have q2 : (c.val + (3 : Fin 5).val) % 4 = (bat c 2).val := by revert c; decide
  have q1 : (c.val + (2 : Fin 5).val) % 4 = (bat c 1).val := by revert c; decide
  have q0 : (c.val + (1 : Fin 5).val) % 4 = (bat c 0).val := by revert c; decide
  have q3' : (c.val + (0 : Fin 5).val) % 4 = (bat c 3).val := by revert c; decide
  unfold work before args
  simp only [runs_bind]
  iintro ⟨#H, He, ⟨Gx, Gq, Go⟩, Gout, X3, ⟨W1, W2, W3, Wb⟩, ⟨F0, F1⟩, ⟨A0, A1, A2, A3⟩, Hd, ⟨P0, P1, P2⟩, ⟨R0, R1, R2⟩, HO⟩ HQ
  unfold door
  icases Hd with ⟨Hd1, Hd2, Hd3⟩
  iapply (meet_spec m K c _) $$ [He Hd1 Hd2 Hd3 HO]
  · isplitr; · iexact H
    isplitl [He]; · iexact He
    isplitl [Hd1]; · iexact Hd1
    isplitl [HO]; · iexact HO
    isplitl [Hd2] <;> iassumption
  iintro ⟨Hb, HO, Zb⟩
  ihave Hb := (Entails.of_eq (barPay_eq c)) $$ Hb
  icases Hb with ⟨⟨N3, N2, N1⟩, S0, S1, S2⟩
  iapply (castX_run m c (bat c 3) (bat3 c) _ _ _ (k0_off1_eq c) _) $$ [Gx X3]
  · isplitl [Gx] <;> iassumption
  iintro ⟨Gx, X3⟩
  iapply (agSend_run m K c 0 (bat c 3) (xrow0 c) _ (dv _ _ (k0_dev3_eq c)) _ _ _ (o2 3) (debt1 c) _) $$ [X3 N3 HO P0]
  · isplitr; · iexact H
    isplitl [X3]; · iexact X3
    isplitl [N3]; · iexact N3
    isplitl [HO] <;> iassumption
  iintro ⟨X3, P0, HO⟩
  iapply (issue_spec m c 0 (bat c 3) 0 _ _ (k0_off3_eq c 3) _) $$ F0
  iintro F0
  iapply (issue_spec m c 1 (bat c 3) 1 _ _ (k0_off4_eq c 3) _) $$ F1
  iintro F1
  iapply (castW_spec m c _) $$ [Gq Go W1 W2]
  · isplitl [Gq]; · iexact Gq
    isplitl [Go]; · iexact Go
    isplitl [W1] <;> iassumption
  iintro ⟨Gq, Go, W1, W2⟩
  ihave Hk : (kit m c) $$ [W1 W2 W3 Wb]
  · unfold kit
    isplitl [W1]; · iexact W1
    isplitl [W2]; · iexact W2
    isplitl [W3] <;> iassumption
  ihave Hs : (slots m c true (bat c 3)) $$ [F0 F1]
  · unfold slots
    rw [if_pos rfl]
    isplitl [F0] <;> iassumption
  iapply (batch_run m K c (debt1 c) (above1 c 0 (by omega)) 3 2 4 q3 true (half 0) _) $$ [X3 Hs Hk HO A3]
  · isplitr; · iexact H
    isplitl [X3]; · iexact X3
    isplitl [Hs]; · iexact Hs
    isplitl [Hk]; · iexact Hk
    isplitl [HO] <;> iassumption
  iintro ⟨X3, Hs, Hk, HO, A3⟩
  iapply (agWait_run m K c 0 (bat c 3) (bat c 2) (xrow0 c) (xrow0p c) _ _ _ (o2 3) (debt1 c) (above1 c 2 (by omega)) _) $$ [X3 P0 HO]
  · isplitr; · iexact H
    isplitl [X3]; · iexact X3
    isplitl [P0] <;> iassumption
  iintro ⟨X3, X2, HO, P0⟩
  iapply (agSend_run m K c 1 (bat c 2) (xrow1 c) _ (dv _ _ (k0_dev4_eq c)) _ _ _ (o2 2) (debt2 c) _) $$ [X2 N2 HO P1]
  · isplitr; · iexact H
    isplitl [X2]; · iexact X2
    isplitl [N2]; · iexact N2
    isplitl [HO] <;> iassumption
  iintro ⟨X2, P1, HO⟩
  iapply (batch_run m K c (debt2 c) (above2 c 0 (by omega)) 2 1 3 q2 true (half 0) _) $$ [X2 Hs Hk HO A2]
  · isplitr; · iexact H
    isplitl [X2]; · iexact X2
    isplitl [Hs]; · iexact Hs
    isplitl [Hk]; · iexact Hk
    isplitl [HO] <;> iassumption
  iintro ⟨X2, Hs, Hk, HO, A2⟩
  ihave A2 := (Entails.of_eq (show aPts c (bat c 2) (PS m c) = aPts c (bat c 2) (RS m 0 c) from rfl)) $$ A2
  iapply (rsSend_run m K c 0 (bat c 2) (arow0 c) 0 rfl _ (dv _ _ (k0_dev5_eq c)) _ _ (o2 2) (debt3 c) _) $$ [A2 S0 HO R0]
  · isplitr; · iexact H
    isplitl [A2]; · iexact A2
    isplitl [S0]; · iexact S0
    isplitl [HO] <;> iassumption
  iintro ⟨R0, HO⟩
  iapply (agWait_run m K c 1 (bat c 2) (bat c 1) (xrow1 c) (xrow1p c) _ _ _ (o2 2) (debt3 c) (above3 c 3 (by omega)) _) $$ [X2 P1 HO]
  · isplitr; · iexact H
    isplitl [X2]; · iexact X2
    isplitl [P1] <;> iassumption
  iintro ⟨X2, X1, HO, P1⟩
  iapply (agSend_run m K c 2 (bat c 1) (xrow2 c) _ (dv _ _ (k0_dev6_eq c)) _ _ _ (o2 1) (debt4 c) _) $$ [X1 N1 HO P2]
  · isplitr; · iexact H
    isplitl [X1]; · iexact X1
    isplitl [N1]; · iexact N1
    isplitl [HO] <;> iassumption
  iintro ⟨X1, P2, HO⟩
  iapply (batch_run m K c (debt4 c) (above4 c 0 (by omega)) 1 0 2 q1 true (half 0) _) $$ [X1 Hs Hk HO A1]
  · isplitr; · iexact H
    isplitl [X1]; · iexact X1
    isplitl [Hs]; · iexact Hs
    isplitl [Hk]; · iexact Hk
    isplitl [HO] <;> iassumption
  iintro ⟨X1, Hs, Hk, HO, A1⟩
  iapply (rsFinish_run m K c 0 (bat c 2) (bat c 1) (arow0 c) (arow0p c) 0 1 rfl rfl _ _ (o2 2) _ _ (o5 1 2 q1) (debt4 c) (above4 c 5 (by omega)) _) $$ [A1 R0 HO]
  · isplitr; · iexact H
    isplitl [A1]; · iexact A1
    isplitl [R0] <;> iassumption
  iintro ⟨A1, A2, B0, HO, R0⟩
  iapply (rsSend_run m K c 1 (bat c 1) (arow1 c) 1 rfl _ (dv _ _ (k0_dev7_eq c)) _ _ (o2 1) (debt5 c) _) $$ [A1 S1 HO R1]
  · isplitr; · iexact H
    isplitl [A1]; · iexact A1
    isplitl [S1]; · iexact S1
    isplitl [HO] <;> iassumption
  iintro ⟨R1, HO⟩
  iapply (agWait_run m K c 2 (bat c 1) (bat c 0) (xrow2 c) (xrow2p c) _ _ _ (o2 1) (debt5 c) (above5 c 4 (by omega)) _) $$ [X1 P2 HO]
  · isplitr; · iexact H
    isplitl [X1]; · iexact X1
    isplitl [P2] <;> iassumption
  iintro ⟨X1, X0, HO, P2⟩
  iapply (batch_run m K c (debt5 c) (above5 c 0 (by omega)) 0 0 1 q0 false fullShare _) $$ [X0 Hs Hk HO A0]
  · isplitr; · iexact H
    isplitl [X0]; · iexact X0
    isplitl [Hs]; · iexact Hs
    isplitl [Hk]; · iexact Hk
    isplitl [HO] <;> iassumption
  iintro ⟨X0, Hs, Hk, HO, A0⟩
  iapply (rsFinish_run m K c 1 (bat c 1) (bat c 0) (arow1 c) (arow1p c) 1 2 rfl rfl _ _ (o2 1) _ _ (o5 0 1 q0) (debt5 c) (above5 c 6 (by omega)) _) $$ [A0 R1 HO]
  · isplitr; · iexact H
    isplitl [A0]; · iexact A0
    isplitl [R1] <;> iassumption
  iintro ⟨A0, A1, B1, HO, R1⟩
  iapply (rsSend_run m K c 2 (bat c 0) (arow2 c) 2 rfl _ (dv _ _ (k0_dev8_eq c)) _ _ (o2 0) (0) _) $$ [A0 S2 HO R2]
  · isplitr; · iexact H
    isplitl [A0]; · iexact A0
    isplitl [S2]; · iexact S2
    isplitl [HO] <;> iassumption
  iintro ⟨R2, HO⟩
  iapply (rsFinish_run m K c 2 (bat c 0) (bat c 3) (arow2 c) (arow2p c) 2 3 rfl rfl _ _ (o2 0) _ _ (o5 3 0 q3') (0) (Above.zero _) _) $$ [A3 R2 HO]
  · isplitr; · iexact H
    isplitl [A3]; · iexact A3
    isplitl [R2] <;> iassumption
  iintro ⟨A3, A0, B2, HO, R2⟩
  iapply (emit_run m c (bat c 3) (bat3 c) _ _ (k0_off1_eq c) _) $$ [A3 Gout]
  · isplitl [A3] <;> iassumption
  iintro ⟨A3, Gout⟩
  iapply HQ
  ihave Hs := (Entails.of_eq (show slots m c false (bat c 0) = iprop(free m c 0 ∗ free m c 1) from if_neg (by decide))) $$ Hs
  unfold after args
  isplitl [Gx Gq Go]
  · isplitl [Gx]; · iexact Gx
    isplitl [Gq] <;> iassumption
  isplitl [Gout]; · iexact Gout
  isplitl [X0 X1 X2 X3]
  · isplitl [X0]; · iexact X0
    isplitl [X1]; · iexact X1
    isplitl [X2] <;> iassumption
  isplitl [Hk]; · iexact Hk
  isplitl [Hs]; · iexact Hs
  isplitl [A0 A1 A2 A3]
  · isplitl [A0]; · iexists _; iexact A0
    isplitl [A1]; · iexists _; iexact A1
    isplitl [A2]; · iexists _; iexact A2
    iexists _; iexact A3
  isplitl [B0 B1 B2]
  · isplitl [B0]; · iexact B0
    isplitl [B1] <;> iassumption
  isplitl [Zb]; · iexact Zb
  isplitl [P0 P1 P2]
  · isplitl [P0]; · iexact P0
    isplitl [P1] <;> iassumption
  isplitl [R0 R1 R2]
  · isplitl [R0]; · iexact R0
    isplitl [R1] <;> iassumption
  iexact HO

end Cert.KernelIdeal.Att
end
-- ==== Proof.Rows.lean ====
module

public import proofs.«01_k».proof.Proof.Work

/-!
# Buffers and their rows

A whole buffer is its rows, held one by one. This is how the launch hands a device the rows it sends on, and how the
device gives the buffers back.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

/-! ## In general -/

section General
variable {T : Type} [Fintype T] [DecidableEq T] (c : Dev nD) (b : Ref sig .tc) (K : T → Finset (Idx ((c : Thread nD τ).loc b)))
  (hd : ∀ t t', t ≠ t' → Disjoint (K t) (K t')) (hu : ∀ i, ∃ t, i ∈ K t)

/-- A buffer whose elements are shared out among disjoint sets, as those sets. -/
theorem parts (hd : ∀ t t', t ≠ t' → Disjoint (K t) (K t')) (hu : ∀ i, ∃ t, i ∈ K t) :
    iprop(∃ f, held c b f) ⊢ (bigSep Finset.univ fun t => iprop(∃ f : Buf (Elt F) ((c : Thread nD τ).loc b), (c : Thread nD τ).loc b ↦[K t]{fullShare} f) : sProp 𝕄) := by
  have hU : (Finset.univ : Finset T).biUnion K = Finset.univ := Finset.eq_univ_iff_forall.mpr fun i =>
    Finset.mem_biUnion.mpr ((hu i).imp fun t ht => ⟨Finset.mem_univ _, ht⟩)
  iintro ⟨%f, H⟩
  have e : (held c b f : sProp 𝕄) ⊢ bigSep Finset.univ fun t => iprop(∃ f : Buf (Elt F) ((c : Thread nD τ).loc b), (c : Thread nD τ).loc b ↦[K t]{fullShare} f) := by
    have e1 : (held c b f : sProp 𝕄) = ((c : Thread nD τ).loc b ↦[(Finset.univ : Finset T).biUnion K]{fullShare} f) := by rw [hU, held]
    rw [e1, pointsTo_biUnion _ _ fun t _ t' _ h => hd t t' h]
    have e2 (t : T) : ((c : Thread nD τ).loc b ↦[K t]{fullShare} f : sProp 𝕄) ⊢ iprop(∃ f : Buf (Elt F) ((c : Thread nD τ).loc b), (c : Thread nD τ).loc b ↦[K t]{fullShare} f) := by
      iintro H; iexists f; iexact H
    exact bigSep_mono fun t _ => e2 t
  iapply e; iexact H

/-- And the sets, whatever each holds, as the buffer. -/
theorem whole (hd : ∀ t t', t ≠ t' → Disjoint (K t) (K t')) (hu : ∀ i, ∃ t, i ∈ K t) [Inhabited (Buf (Elt F) ((c : Thread nD τ).loc b))] :
    (bigSep Finset.univ fun t => iprop(∃ f : Buf (Elt F) ((c : Thread nD τ).loc b), (c : Thread nD τ).loc b ↦[K t]{fullShare} f) : sProp 𝕄) ⊢ iprop(∃ f, held c b f) := by
  have hU : (Finset.univ : Finset T).biUnion K = Finset.univ := Finset.eq_univ_iff_forall.mpr fun i =>
    Finset.mem_biUnion.mpr ((hu i).imp fun t ht => ⟨Finset.mem_univ _, ht⟩)
  iintro H
  ihave H := (BI.bigSep_exists_pi Finset.univ (fun (t : T) (f : Buf (Elt F) ((c : Thread nD τ).loc b)) => ((c : Thread nD τ).loc b ↦[K t]{fullShare} f : sProp 𝕄))) $$ H
  icases H with ⟨%fs, H⟩
  ihave H := (pointsTo_biUnion_join Finset.univ K fs default fun t _ t' _ h => hd t t' h) $$ H
  icases H with ⟨%g, -, H⟩
  iexists g
  unfold held
  ihave H := (Entails.of_eq (show ((c : Thread nD τ).loc b ↦[(Finset.univ : Finset T).biUnion K]{fullShare} g : sProp 𝕄) = ((c : Thread nD τ).loc b ↦{fullShare} g) from by rw [hU])) $$ H
  iexact H

end General

/-! ## The rows of this kernel's buffers -/

instance (c : Dev nD) (b : Ref sig .tc) : Inhabited (Buf (Elt F) ((c : Thread nD τ).loc b)) := ⟨fun _ => Classical.choice inferInstance⟩

variable (c : Dev nD)

theorem x_apart (t t' : Fin 4) (h : t ≠ t') : Disjoint (xR t).view.set (xR t').view.set := by
  rw [xR_set, xR_set]
  exact Finset.disjoint_left.mpr fun i hi hj => h (Fin.ext (((mem_row t i).mp hi).symm.trans ((mem_row t' i).mp hj)))
theorem x_cover (i : S4x256x1024.Idx) : ∃ t, i ∈ (xR t).view.set := ⟨(i 0 : Fin 4), (xR_set (i 0 : Fin 4)).symm ▸ (mem_row (i 0 : Fin 4) i).mpr rfl⟩
theorem a_apart (t t' : Fin 4) (h : t ≠ t') : Disjoint (aR t).view.set (aR t').view.set := by
  rw [aR_set, aR_set]
  exact Finset.disjoint_left.mpr fun i hi hj => h (Fin.ext (((mem_row t i).mp hi).symm.trans ((mem_row t' i).mp hj)))
theorem a_cover (i : S4x256x1024.Idx) : ∃ t, i ∈ (aR t).view.set := ⟨(i 0 : Fin 4), (aR_set (i 0 : Fin 4)).symm ▸ (mem_row (i 0 : Fin 4) i).mpr rfl⟩
theorem r_apart (t t' : Fin 3) (h : t ≠ t') : Disjoint (rsRow t).view.set (rsRow t').view.set := by
  rw [rsRow_set, rsRow_set]
  exact Finset.disjoint_left.mpr fun i hi hj => h (Fin.ext (((mem_rs t i).mp hi).symm.trans ((mem_rs t' i).mp hj)))
theorem r_cover (i : S3x256x1024.Idx) : ∃ t, i ∈ (rsRow t).view.set := ⟨(i 0 : Fin 3), (rsRow_set (i 0 : Fin 3)).symm ▸ (mem_rs (i 0 : Fin 3) i).mpr rfl⟩

theorem mem_slot (s : Fin 2) (i : S2x16x64x8x128.Idx) : i ∈ (slotR s).set ↔ (i 0).val = s.val := by
  rw [Rect.mem_set_unit]
  constructor
  · intro h; have := h 0; change s.val ≤ (i 0).val ∧ (i 0).val < s.val + 1 at this; omega
  · intro h a
    match a with
    | ⟨0, _⟩ => change s.val ≤ (i 0).val ∧ (i 0).val < s.val + 1; omega
    | ⟨1, _⟩ => exact ⟨Nat.zero_le _, by have := (i 1).isLt; change (i 1).val < 0 + 16; change (i 1).val < 16 at this; omega⟩
    | ⟨2, _⟩ => exact ⟨Nat.zero_le _, by have := (i 2).isLt; change (i 2).val < 0 + 64; change (i 2).val < 64 at this; omega⟩
    | ⟨3, _⟩ => exact ⟨Nat.zero_le _, by have := (i 3).isLt; change (i 3).val < 0 + 8; change (i 3).val < 8 at this; omega⟩
    | ⟨4, _⟩ => exact ⟨Nat.zero_le _, by have := (i 4).isLt; change (i 4).val < 0 + 128; change (i 4).val < 128 at this; omega⟩
theorem slot_apart (t t' : Fin 2) (h : t ≠ t') : Disjoint (slotR t).set (slotR t').set :=
  Finset.disjoint_left.mpr fun i hi hj => h (Fin.ext (((mem_slot t i).mp hi).symm.trans ((mem_slot t' i).mp hj)))
theorem slot_cover (i : S2x16x64x8x128.Idx) : ∃ t, i ∈ (slotR t).set := ⟨i 0, (mem_slot _ i).mpr rfl⟩

/-- Four rows in the order in which device `c` takes the batches. -/
theorem four_bat (Φ : Fin 4 → sProp 𝕄) : bigSep Finset.univ Φ = iprop(Φ (bat c 0) ∗ Φ (bat c 1) ∗ Φ (bat c 2) ∗ Φ (bat c 3)) :=
  bigSep_univ_eq_bigSepL [bat c 0, bat c 1, bat c 2, bat c 3] (by revert c; decide) (by revert c; decide) Φ
theorem three (Φ : Fin 3 → sProp 𝕄) : bigSep Finset.univ Φ = iprop(Φ 0 ∗ Φ 1 ∗ Φ 2) := bigSep_univ_eq_bigSepL [0, 1, 2] (by decide) (by decide) Φ
theorem two (Φ : Fin 2 → sProp 𝕄) : bigSep Finset.univ Φ = iprop(Φ 0 ∗ Φ 1) := bigSep_univ_eq_bigSepL [0, 1] (by decide) (by decide) Φ

theorem x_open : iprop(∃ f, held c cc0_scratch0 f) ⊢ (iprop((∃ f, xPts c (bat c 0) fullShare f) ∗ (∃ f, xPts c (bat c 1) fullShare f) ∗ (∃ f, xPts c (bat c 2) fullShare f) ∗ (∃ f, xPts c (bat c 3) fullShare f)) : sProp 𝕄) :=
  BIBase.Entails.trans (parts c cc0_scratch0 (fun t => (xR t).view.set) x_apart x_cover) (Entails.of_eq (four_bat c _))
theorem x_shut : (iprop((∃ f, xPts c (bat c 0) fullShare f) ∗ (∃ f, xPts c (bat c 1) fullShare f) ∗ (∃ f, xPts c (bat c 2) fullShare f) ∗ (∃ f, xPts c (bat c 3) fullShare f)) : sProp 𝕄) ⊢ iprop(∃ f, held c cc0_scratch0 f) :=
  BIBase.Entails.trans (Entails.of_eq (four_bat c (fun t => iprop(∃ f, xPts c t fullShare f))).symm) (whole c cc0_scratch0 (fun t => (xR t).view.set) x_apart x_cover)
theorem a_open : iprop(∃ f, held c cc0_scratch9 f) ⊢ (iprop((∃ f, aPts c (bat c 0) f) ∗ (∃ f, aPts c (bat c 1) f) ∗ (∃ f, aPts c (bat c 2) f) ∗ (∃ f, aPts c (bat c 3) f)) : sProp 𝕄) :=
  BIBase.Entails.trans (parts c cc0_scratch9 (fun t => (aR t).view.set) a_apart a_cover) (Entails.of_eq (four_bat c _))
theorem a_shut : (iprop((∃ f, aPts c (bat c 0) f) ∗ (∃ f, aPts c (bat c 1) f) ∗ (∃ f, aPts c (bat c 2) f) ∗ (∃ f, aPts c (bat c 3) f)) : sProp 𝕄) ⊢ iprop(∃ f, held c cc0_scratch9 f) :=
  BIBase.Entails.trans (Entails.of_eq (four_bat c (fun t => iprop(∃ f, aPts c t f))).symm) (whole c cc0_scratch9 (fun t => (aR t).view.set) a_apart a_cover)
theorem r_open : iprop(∃ f, held c cc0_scratch10 f) ⊢ (iprop((∃ f, rPts c 0 f) ∗ (∃ f, rPts c 1 f) ∗ (∃ f, rPts c 2 f)) : sProp 𝕄) :=
  BIBase.Entails.trans (parts c cc0_scratch10 (fun t => (rsRow t).view.set) r_apart r_cover) (Entails.of_eq (three _))
theorem r_shut : (iprop((∃ f, rPts c 0 f) ∗ (∃ f, rPts c 1 f) ∗ (∃ f, rPts c 2 f)) : sProp 𝕄) ⊢ iprop(∃ f, held c cc0_scratch10 f) :=
  BIBase.Entails.trans (Entails.of_eq (three (fun t => iprop(∃ f, rPts c t f))).symm) (whole c cc0_scratch10 (fun t => (rsRow t).view.set) r_apart r_cover)
theorem k_open : iprop(∃ f, held c cc0_scratch4 f) ⊢ (iprop((∃ f, kSl c 0 f) ∗ (∃ f, kSl c 1 f)) : sProp 𝕄) :=
  BIBase.Entails.trans (parts c cc0_scratch4 (fun t => (slotR t).set) slot_apart slot_cover) (Entails.of_eq (two _))
theorem k_shut : (iprop((∃ f, kSl c 0 f) ∗ (∃ f, kSl c 1 f)) : sProp 𝕄) ⊢ iprop(∃ f, held c cc0_scratch4 f) :=
  BIBase.Entails.trans (Entails.of_eq (two (fun t => iprop(∃ f, kSl c t f))).symm) (whole c cc0_scratch4 (fun t => (slotR t).set) slot_apart slot_cover)
theorem v_open : iprop(∃ f, held c cc0_scratch5 f) ⊢ (iprop((∃ f, vSl c 0 f) ∗ (∃ f, vSl c 1 f)) : sProp 𝕄) :=
  BIBase.Entails.trans (parts c cc0_scratch5 (fun t => (slotR t).set) slot_apart slot_cover) (Entails.of_eq (two _))
theorem v_shut : (iprop((∃ f, vSl c 0 f) ∗ (∃ f, vSl c 1 f)) : sProp 𝕄) ⊢ iprop(∃ f, held c cc0_scratch5 f) :=
  BIBase.Entails.trans (Entails.of_eq (two (fun t => iprop(∃ f, vSl c t f))).symm) (whole c cc0_scratch5 (fun t => (slotR t).set) slot_apart slot_cover)

/-- The keys, the values, in halves, one for each slot's copies. -/
theorem kArr : (((c : Thread nD τ).loc main_arg2 ↦{fullShare} m ((c : Thread nD τ).loc main_arg2)) : sProp 𝕄) ⊢ iprop(kPts m c 0 Finset.univ ∗ kPts m c 1 Finset.univ) := by
  unfold kPts; exact (pointsTo_share halves).1
theorem kArr' : iprop(kPts m c 0 Finset.univ ∗ kPts m c 1 Finset.univ) ⊢ (((c : Thread nD τ).loc main_arg2 ↦{fullShare} m ((c : Thread nD τ).loc main_arg2)) : sProp 𝕄) := by
  unfold kPts; exact (pointsTo_share halves).2
theorem vArr : (((c : Thread nD τ).loc main_arg3 ↦{fullShare} m ((c : Thread nD τ).loc main_arg3)) : sProp 𝕄) ⊢ iprop(vPts m c 0 Finset.univ ∗ vPts m c 1 Finset.univ) := by
  unfold vPts; exact (pointsTo_share halves).1
theorem vArr' : iprop(vPts m c 0 Finset.univ ∗ vPts m c 1 Finset.univ) ⊢ (((c : Thread nD τ).loc main_arg3 ↦{fullShare} m ((c : Thread nD τ).loc main_arg3)) : sProp 𝕄) := by
  unfold vPts; exact (pointsTo_share halves).2

end Cert.KernelIdeal.Att
end
-- ==== Proof.Ghost.lean ====
module

public import proofs.«01_k».proof.Proof.Rows

/-!
# Cells at launch

Each device's thirteen counters become cells of the schedule at once, for all devices; the tokens go to those that pay,
and the credit to those that wait.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-- The pipeline's own rounds in the model. -/
abbrev EP : Emb (UR sig nD τ) 𝕄 := embL

/-! ## The cells and the tokens -/

theorem kcell_inj : Function.Injective (fun p : Dev nD × Cell => kcell p.1 p.2) := by
  rintro ⟨c, k⟩ ⟨c', k'⟩ h
  have h1 : c = c' := congrArg (fun g : GSem nD τ sig => g.1.1) h
  have h2 : k = k' := csem_inj _ _ (congrArg Prod.snd h)
  subst h1; subst h2; rfl

/-- All cells. -/
def allCells : Finset (GSem nD τ sig) := Finset.univ.map ⟨fun p : Dev nD × Cell => kcell p.1 p.2, kcell_inj⟩

/-- A cell's token `false`; the barrier has a second one. -/
def tokAt (p : Dev nD × Option Cell) : GSem nD τ sig × ℕ × Bool := match p.2 with
  | none => (kcell p.1 bar, 0, true)
  | some k => (kcell p.1 k, 0, false)

theorem tokAt_inj : Function.Injective tokAt := by
  rintro ⟨c, k⟩ ⟨c', k'⟩ h
  have h1 : c = c' := by cases k <;> cases k' <;> exact congrArg (fun x : GSem nD τ sig × ℕ × Bool => x.1.1.1) h
  subst h1
  have h2 : k = k' := by
    cases k with
    | none => cases k' with
      | none => rfl
      | some j => exact absurd (congrArg (fun x : GSem nD τ sig × ℕ × Bool => x.2.2) h) (fun h' => by cases h')
    | some j => cases k' with
      | none => exact absurd (congrArg (fun x : GSem nD τ sig × ℕ × Bool => x.2.2) h) (fun h' => by cases h')
      | some j' => exact congrArg some (csem_inj _ _ (congrArg (fun x : GSem nD τ sig × ℕ × Bool => x.1.2) h))
  subst h2; rfl

/-- All tokens. -/
def allToks : Finset (GSem nD τ sig × ℕ × Bool) := Finset.univ.map ⟨tokAt, tokAt_inj⟩

/-- The model's user part at launch. -/
def u₀ : UU := (initOf (Pipeline.cells cfgs cellOf_inj) (Pipeline.launchToks cfgs cellOf_inj), (initOf allCells allToks, 1))

theorem u₀_split : (ownU u₀ : sProp 𝕄) ⊢ iprop(BI.own (EP (initOf (Pipeline.cells cfgs cellOf_inj) (Pipeline.launchToks cfgs cellOf_inj))) ∗ BI.own (ER (initOf allCells allToks))) := by
  unfold u₀
  exact BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allToks, (1 : Counters)))))

/-! ## Lists -/

theorem cells_list (Φ : Cell → sProp 𝕄) : bigSep Finset.univ Φ
    = iprop(Φ bar ∗ (Φ (xs 0) ∗ Φ (xs 1) ∗ Φ (xs 2)) ∗ (Φ (xr 0) ∗ Φ (xr 1) ∗ Φ (xr 2)) ∗ (Φ (ss 0) ∗ Φ (ss 1) ∗ Φ (ss 2)) ∗ (Φ (sr 0) ∗ Φ (sr 1) ∗ Φ (sr 2))) := by
  rw [bigSep_univ_eq_bigSepL [bar, xs 0, xs 1, xs 2, xr 0, xr 1, xr 2, ss 0, ss 1, ss 2, sr 0, sr 1, sr 2] (by decide) (by decide) Φ]
  have c1 : iprop(Φ bar ∗ Φ (xs 0) ∗ Φ (xs 1) ∗ Φ (xs 2) ∗ Φ (xr 0) ∗ Φ (xr 1) ∗ Φ (xr 2) ∗ Φ (ss 0) ∗ Φ (ss 1) ∗ Φ (ss 2) ∗ Φ (sr 0) ∗ Φ (sr 1) ∗ Φ (sr 2)) ⊢ (iprop(Φ bar ∗ (Φ (xs 0) ∗ Φ (xs 1) ∗ Φ (xs 2)) ∗ (Φ (xr 0) ∗ Φ (xr 1) ∗ Φ (xr 2)) ∗ (Φ (ss 0) ∗ Φ (ss 1) ∗ Φ (ss 2)) ∗ (Φ (sr 0) ∗ Φ (sr 1) ∗ Φ (sr 2))) : sProp 𝕄) := by
    iintro ⟨H, A0, A1, A2, B0, B1, B2, C0, C1, C2, D0, D1, D2⟩
    isplitl [H]; · iexact H
    isplitl [A0 A1 A2]
    · isplitl [A0]; · iexact A0
      isplitl [A1] <;> iassumption
    isplitl [B0 B1 B2]
    · isplitl [B0]; · iexact B0
      isplitl [B1] <;> iassumption
    isplitl [C0 C1 C2]
    · isplitl [C0]; · iexact C0
      isplitl [C1] <;> iassumption
    isplitl [D0]; · iexact D0
    isplitl [D1] <;> iassumption
  have c2 : iprop(Φ bar ∗ (Φ (xs 0) ∗ Φ (xs 1) ∗ Φ (xs 2)) ∗ (Φ (xr 0) ∗ Φ (xr 1) ∗ Φ (xr 2)) ∗ (Φ (ss 0) ∗ Φ (ss 1) ∗ Φ (ss 2)) ∗ (Φ (sr 0) ∗ Φ (sr 1) ∗ Φ (sr 2))) ⊢ (iprop(Φ bar ∗ Φ (xs 0) ∗ Φ (xs 1) ∗ Φ (xs 2) ∗ Φ (xr 0) ∗ Φ (xr 1) ∗ Φ (xr 2) ∗ Φ (ss 0) ∗ Φ (ss 1) ∗ Φ (ss 2) ∗ Φ (sr 0) ∗ Φ (sr 1) ∗ Φ (sr 2)) : sProp 𝕄) := by
    iintro ⟨H, ⟨A0, A1, A2⟩, ⟨B0, B1, B2⟩, ⟨C0, C1, C2⟩, ⟨D0, D1, D2⟩⟩
    isplitl [H]; · iexact H
    isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    isplitl [C2]; · iexact C2
    isplitl [D0]; · iexact D0
    isplitl [D1] <;> iassumption
  exact BI.Entails.antisymm c1 c2

theorem option_split {T : Type} [Fintype T] [DecidableEq T] (Φ : Option T → sProp 𝕄) :
    bigSep Finset.univ Φ = iprop(Φ none ∗ bigSep Finset.univ fun k => Φ (some k)) := by
  rw [bigSep_univ_at Φ none]
  congr 1
  rw [show (Finset.univ.erase (none : Option T)) = Finset.univ.map Function.Embedding.some from by
    ext x; cases x <;> simp, bigSep_map]
  rfl

/-! ## What the launch deals -/

/-- The four counters of the local copies. -/
def locals (c : Dev nD) : sProp 𝕄 :=
  iprop((semVal ((c : Thread nD τ), SemLoc.dma (dSem2 cc0_scratch15 0)) 0 ∗ semVal ((c : Thread nD τ), SemLoc.dma (dSem2 cc0_scratch15 1)) 0)
    ∗ (semVal ((c : Thread nD τ), SemLoc.dma (dSem2 cc0_scratch16 0)) 0 ∗ semVal ((c : Thread nD τ), SemLoc.dma (dSem2 cc0_scratch16 1)) 0))

/-- The tokens of a device's own cells. -/
def toks (c : Dev nD) : sProp 𝕄 := iprop(tok c bar true ∗ bigSep Finset.univ fun k : Cell => tok c k false)
/-- Who is paid by device `c`'s token for cell `k`. -/
def ring : Dev nD ≃ Dev nD := ⟨nxt, prv, prv_nxt, nxt_prv⟩
def payee : Cell → (Dev nD ≃ Dev nD)
  | none => ring
  | some (0, _) => Equiv.refl _
  | some (1, _) => ring
  | some (2, _) => Equiv.refl _
  | some (3, _) => ring
/-- The tokens a device pays with. -/
def payToks (c : Dev nD) : sProp 𝕄 := iprop(tok (prv c) bar true ∗ bigSep Finset.univ fun k : Cell => tok (payee k c) k false)

/-- What the launch element deals device `c`. -/
def G (c : Dev nD) : sProp 𝕄 :=
  iprop((bigSep Finset.univ fun k : Cell => roundState ER (plan m) (kcell c k) 0)
    ∗ (bigSep Finset.univ fun k : Cell => spot c k) ∗ (bigSep Finset.univ fun k : Cell => reached ER (kcell c k) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [option_split]; rfl
  iintro HX
  imod (Rounds.fund ER (plan m) allCells allToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The counters become cells -/

/-- The kernel's own semaphores. -/
abbrev osem : Fin 16 → SemLoc sig := fun
  | 0 => .dma (dSem3 cc0_scratch11 0) | 1 => .dma (dSem3 cc0_scratch11 1) | 2 => .dma (dSem3 cc0_scratch11 2)
  | 3 => .dma (dSem3 cc0_scratch12 0) | 4 => .dma (dSem3 cc0_scratch12 1) | 5 => .dma (dSem3 cc0_scratch12 2)
  | 6 => .dma (dSem3 cc0_scratch13 0) | 7 => .dma (dSem3 cc0_scratch13 1) | 8 => .dma (dSem3 cc0_scratch13 2)
  | 9 => .dma (dSem3 cc0_scratch14 0) | 10 => .dma (dSem3 cc0_scratch14 1) | 11 => .dma (dSem3 cc0_scratch14 2)
  | 12 => .dma (dSem2 cc0_scratch15 0) | 13 => .dma (dSem2 cc0_scratch15 1)
  | 14 => .dma (dSem2 cc0_scratch16 0) | ⟨_, _⟩ => .dma (dSem2 cc0_scratch16 1)

theorem ownSemFacts : Pipeline.OwnSemFacts cfg0.spec osem := by decide +kernel

abbrev ownSems (c : Dev nD) : sProp 𝕄 := Pipeline.ownSems0 (Ix := Unit) (Name := ℕ) (U := UU) (Lvl := ℕ) (Val := Elt F) (τ := τ) osem c

theorem own_list (c : Dev nD) : (ownSems c : sProp 𝕄)
    = iprop(zero c (xs 0) ∗ zero c (xs 1) ∗ zero c (xs 2) ∗ zero c (xr 0) ∗ zero c (xr 1) ∗ zero c (xr 2)
      ∗ zero c (ss 0) ∗ zero c (ss 1) ∗ zero c (ss 2) ∗ zero c (sr 0) ∗ zero c (sr 1) ∗ zero c (sr 2)
      ∗ semVal ((c : Thread nD τ), SemLoc.dma (dSem2 cc0_scratch15 0)) 0 ∗ semVal ((c : Thread nD τ), SemLoc.dma (dSem2 cc0_scratch15 1)) 0
      ∗ semVal ((c : Thread nD τ), SemLoc.dma (dSem2 cc0_scratch16 0)) 0 ∗ semVal ((c : Thread nD τ), SemLoc.dma (dSem2 cc0_scratch16 1)) 0) := by
  unfold ownSems
  rw [Pipeline.ownSems0_eq_of_list c osem [0, 1, 2, 3, 4, 5, 6, 7, 8, 9, 10, 11, 12, 13, 14, 15] (by decide) (by decide)]; rfl
theorem unscoped_list (c : Dev nD) : (unscopedSems0 c : sProp 𝕄) = zero c bar := by
  unfold unscopedSems0; rw [bigSep_eq_bigSepL_of_eq [SemLoc.reg barS] (by decide) (by decide)]; rfl

theorem sems_split (c : Dev nD) : iprop(ownSems c ∗ unscopedSems0 c) ⊢ (iprop((bigSep Finset.univ fun k : Cell => zero c k) ∗ locals c) : sProp 𝕄) := by
  rw [own_list, unscoped_list, cells_list]
  unfold locals
  iintro ⟨⟨A0, A1, A2, B0, B1, B2, C0, C1, C2, D0, D1, D2, K0, K1, V0, V1⟩, HB⟩
  isplitr [K0 K1 V0 V1]
  · isplitl [HB]; · iexact HB
    isplitl [A0 A1 A2]
    · isplitl [A0]; · iexact A0
      isplitl [A1] <;> iassumption
    isplitl [B0 B1 B2]
    · isplitl [B0]; · iexact B0
      isplitl [B1] <;> iassumption
    isplitl [C0 C1 C2]
    · isplitl [C0]; · iexact C0
      isplitl [C1] <;> iassumption
    isplitl [D0]; · iexact D0
    isplitl [D1] <;> iassumption
  · isplitl [K0 K1]
    · isplitl [K0] <;> iassumption
    isplitl [V0] <;> iassumption

theorem core_alloc (c : Dev nD) :
    iprop(ownSems c ∗ unscopedSems0 c ∗ G m c)
      ⊢ |={Set.univ}=> iprop((bigSep Finset.univ fun k : Cell => iprop(∃ κ : ℕ, cellInv ER (plan m) κ (kcell c k)))
          ∗ (bigSep Finset.univ fun k : Cell => reached ER (kcell c k) 0) ∗ toks c ∗ (bigSep Finset.univ fun k : Cell => spot c k) ∗ locals c) := by
  unfold G
  iintro ⟨Hos, Hus, Hst, Hat, Hr, Htok⟩
  ihave Hv := (sems_split (F := F) c) $$ [Hos Hus]
  · isplitl [Hos] <;> iassumption
  icases Hv with ⟨Hv, Hl⟩
  imod (show iprop((bigSep Finset.univ fun k : Cell => zero c k) ∗ bigSep Finset.univ fun k : Cell => roundState ER (plan m) (kcell c k) 0)
      ⊢ (|={Set.univ}=> bigSep Finset.univ fun k : Cell => iprop(∃ κ : ℕ, cellInv ER (plan m) κ (kcell c k)) : sProp 𝕄) from by
        rw [← bigSep_sep']
        exact BIBase.Entails.trans (bigSep_mono fun k _ => (Rounds.body_intro ER (plan m) (kcell c k)).trans inv_alloc) (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- What every device knows of all cells. -/
def records (K : Dev nD × Cell → ℕ) : sProp 𝕄 :=
  iprop((bigSep Finset.univ fun p : Dev nD × Cell => cellInv ER (plan m) (K p) (kcell p.1 p.2))
    ∗ (bigSep Finset.univ fun p : Dev nD × Cell => reached ER (kcell p.1 p.2) 0))

instance records_persistent (K : Dev nD × Cell → ℕ) : BI.Persistent (records m K) := by unfold records; infer_instance

/-- What a device starts with. -/
def G' (c : Dev nD) : sProp 𝕄 :=
  iprop(∃ K, records m K ∗ payToks c ∗ (bigSep Finset.univ fun k : Cell => spot c k) ∗ locals c)

theorem toks_around : (bigSep Finset.univ fun c : Dev nD => (toks c : sProp 𝕄)) ⊢ bigSep Finset.univ fun c : Dev nD => payToks c := by
  unfold toks payToks
  rw [bigSep_sep', bigSep_sep', bigSep_univ_equiv ring.symm (fun c : Dev nD => (tok c bar true : sProp 𝕄)),
    bigSep_univ_comm (fun (c : Dev nD) (k : Cell) => (tok c k false : sProp 𝕄)),
    bigSep_univ_comm (fun (c : Dev nD) (k : Cell) => (tok (payee k c) k false : sProp 𝕄)),
    bigSep_congr fun (k : Cell) _ => bigSep_univ_equiv (payee k) (fun c : Dev nD => (tok c k false : sProp 𝕄))]
  exact .rfl

theorem with_records {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k : Cell => iprop(∃ κ : ℕ, cellInv ER (plan m) κ (kcell c k)))
          ∗ (bigSep Finset.univ fun k : Cell => reached ER (kcell c k) 0) ∗ toks c ∗ (bigSep Finset.univ fun k : Cell => spot c k) ∗ locals c) : sProp 𝕄)
      ⊢ bigSep Finset.univ (G' m) := by
  rw [bigSep_sep', bigSep_sep', bigSep_sep',
    ← bigSep_univ_prod (fun p : Dev nD × Cell => iprop(∃ κ : ℕ, cellInv ER (plan m) κ (kcell p.1 p.2))),
    ← bigSep_univ_prod (fun p : Dev nD × Cell => (reached ER (kcell p.1 p.2) 0 : sProp 𝕄))]
  iintro ⟨HI, #HR, Htok, Hrest⟩
  ihave HK := (BI.bigSep_exists_pi Finset.univ (fun (p : Dev nD × Cell) (κ : ℕ) => (cellInv ER (plan m) κ (kcell p.1 p.2) : sProp 𝕄))) $$ HI
  icases HK with ⟨%K, #HI⟩
  ihave Htk := (toks_around (F := F)) $$ Htok
  have hG (c : Dev nD) : iprop(records m K ∗ (payToks c ∗ (bigSep Finset.univ fun k : Cell => spot c k) ∗ locals c)) ⊢ G' m c := by
    unfold G'; iintro H; iexists K; iexact H
  iapply (with_records (R := records m K) hG)
  isplitr
  · unfold records; isplitl; · iexact HI
    iexact HR
  · iapply (Entails.of_eq (bigSep_sep' Finset.univ (fun c : Dev nD => (payToks c : sProp 𝕄)) fun c => iprop((bigSep Finset.univ fun k : Cell => spot c k) ∗ locals c)).symm)
    isplitl [Htk]; · iexact Htk
    iexact Hrest

/-- All devices' counters become cells at once. -/
theorem glob : (bigSep Finset.univ fun c => iprop(ownSems c ∗ unscopedSems0 c ∗ G m c) : sProp 𝕄) ⊢ |={Set.univ}=> bigSep Finset.univ (G' m) :=
  BIBase.Entails.trans (BIBase.Entails.trans (bigSep_mono fun c _ => core_alloc m c) (bigSep_fupd _ _)) (BI.fupd_mono (regroup m))

/-! ## The credit -/

/-- Where each device owes `n` units to cell `k` of device `e d`, each has the credit for its own cell. -/
theorem credit_of (e : Dev nD ≃ Dev nD) (k : Cell) (n : ℕ) (c : Dev nD) :
    (Pipeline.launchCred (fun d => tallyAt (kcell (e d) k) () n) c : sProp 𝕄) ⊢ chit c k n := by
  refine BIBase.Entails.trans (Pipeline.launchCred_elim _ c (csem k)) (Entails.of_eq ?_)
  unfold chit
  congr 1
  unfold tallyAt; refine congrArg _ (Finsupp.ext fun u => ?_); cases u
  rw [Pipeline.launchCredit_owing, Finsupp.single_eq_same]
  have h (d : Dev nD) : (tallyAt (kcell (e d) k) () n : CellTallies nD τ sig Unit) (kcell c k) () = if d = e.symm c then n else 0 := by
    rw [tallyAt_apply]
    by_cases hd : d = e.symm c
    · subst hd; rw [Equiv.apply_symm_apply, if_pos ⟨rfl, rfl⟩, if_pos rfl]
    · rw [if_neg (fun ⟨h1, _⟩ => hd (by rw [show c = e d from congrArg (fun g : GSem nD τ sig => g.1.1) h1, Equiv.symm_apply_apply])), if_neg hd]
  exact (Finset.sum_congr rfl fun d _ => h d).trans ((Finset.sum_ite_eq' Finset.univ (e.symm c) fun _ => n).trans (if_pos (Finset.mem_univ _)))

theorem credits (c : Dev nD) : (Pipeline.launchCred debt c : sProp 𝕄)
    ⊢ iprop(chit c bar 2 ∗ (chit c (xr 0) NX ∗ chit c (xr 1) NX ∗ chit c (xr 2) NX) ∗ (chit c (sr 0) NR ∗ chit c (sr 1) NR ∗ chit c (sr 2) NR)) := by
  have e : (Pipeline.launchCred debt c : sProp 𝕄)
      = iprop((((((((Pipeline.launchCred (fun _ => 0) c ∗ Pipeline.launchCred (fun d => tS d 2) c) ∗ Pipeline.launchCred (fun d => tS d 1) c)
        ∗ Pipeline.launchCred (fun d => tX d 2) c) ∗ Pipeline.launchCred (fun d => tS d 0) c) ∗ Pipeline.launchCred (fun d => tX d 1) c) ∗ Pipeline.launchCred (fun d => tX d 0) c)
        ∗ Pipeline.launchCred (fun d => tallyAt (kcell (nxt d) bar) () 1) c) ∗ Pipeline.launchCred (fun d => tallyAt (kcell (prv d) bar) () 1) c) := by
    rw [← Pipeline.launchCred_add, ← Pipeline.launchCred_add, ← Pipeline.launchCred_add, ← Pipeline.launchCred_add, ← Pipeline.launchCred_add, ← Pipeline.launchCred_add, ← Pipeline.launchCred_add, ← Pipeline.launchCred_add]
  have hb : (iprop(chit c bar 1 ∗ chit c bar 1) : sProp 𝕄) ⊢ chit c bar 2 := by
    unfold chit
    exact BIBase.Entails.trans (cred_add _ _).2 (Entails.of_eq (by rw [tallyAt_add]))
  rw [e]
  iintro ⟨⟨⟨⟨⟨⟨⟨⟨-, S2⟩, S1⟩, X2⟩, S0⟩, X1⟩, X0⟩, BN⟩, BP⟩
  ihave S2 := (show (Pipeline.launchCred (fun d => tS d 2) c : sProp 𝕄) ⊢ chit c (sr 2) NR from credit_of ring _ _ c) $$ S2
  ihave S1 := (show (Pipeline.launchCred (fun d => tS d 1) c : sProp 𝕄) ⊢ chit c (sr 1) NR from credit_of ring _ _ c) $$ S1
  ihave S0 := (show (Pipeline.launchCred (fun d => tS d 0) c : sProp 𝕄) ⊢ chit c (sr 0) NR from credit_of ring _ _ c) $$ S0
  ihave X2 := (show (Pipeline.launchCred (fun d => tX d 2) c : sProp 𝕄) ⊢ chit c (xr 2) NX from credit_of ring _ _ c) $$ X2
  ihave X1 := (show (Pipeline.launchCred (fun d => tX d 1) c : sProp 𝕄) ⊢ chit c (xr 1) NX from credit_of ring _ _ c) $$ X1
  ihave X0 := (show (Pipeline.launchCred (fun d => tX d 0) c : sProp 𝕄) ⊢ chit c (xr 0) NX from credit_of ring _ _ c) $$ X0
  ihave BN := (show (Pipeline.launchCred (fun d => tallyAt (kcell (nxt d) bar) () 1) c : sProp 𝕄) ⊢ chit c bar 1 from credit_of ring _ _ c) $$ BN
  ihave BP := (show (Pipeline.launchCred (fun d => tallyAt (kcell (prv d) bar) () 1) c : sProp 𝕄) ⊢ chit c bar 1 from credit_of ring.symm _ _ c) $$ BP
  isplitl [BN BP]
  · iapply hb; isplitl [BN] <;> iassumption
  isplitl [X0 X1 X2]
  · isplitl [X0]; · iexact X0
    isplitl [X1] <;> iassumption
  isplitl [S0]; · iexact S0
  isplitl [S1] <;> iassumption

end Cert.KernelIdeal.Att
end
-- ==== Proof.Launch.lean ====
module

public import proofs.«01_k».proof.Proof.Ghost
public import proofs.«01_k».proof.Proof.Gen.KernelIdeal.Points

/-!
# The launch

From the launch to the end of the run: every device starts with what its work wants, and ends with the result in its
block, its arguments as they were, and every counter at zero.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg) (c : Dev nD)

/-- The machine at launch. -/
def s₀ : MemSt nD τ sig (Elt F) := ⟨m, fun _ => 0, ρ⟩

/-! ## Into the work and out of it -/

theorem pay_list : (payToks c : sProp 𝕄) = iprop(tok (prv c) bar true ∗ tok (nxt c) bar false
    ∗ (tok c (xs 0) false ∗ tok c (xs 1) false ∗ tok c (xs 2) false) ∗ (tok (nxt c) (xr 0) false ∗ tok (nxt c) (xr 1) false ∗ tok (nxt c) (xr 2) false)
    ∗ (tok c (ss 0) false ∗ tok c (ss 1) false ∗ tok c (ss 2) false) ∗ (tok (nxt c) (sr 0) false ∗ tok (nxt c) (sr 1) false ∗ tok (nxt c) (sr 2) false)) := by
  unfold payToks; rw [cells_list]; rfl

theorem empties_eq : (empties c : sProp 𝕄) = iprop(((∃ f, xPts c (bat c 2) fullShare f) ∗ (∃ f, xPts c (bat c 1) fullShare f) ∗ (∃ f, xPts c (bat c 0) fullShare f))
    ∗ (∃ f, rPts c 0 f) ∗ (∃ f, rPts c 1 f) ∗ (∃ f, rPts c 2 f)) := by
  unfold empties barPay; rw [nxt_prv, ← xrow0p, ← xrow1p, ← xrow2p]

/-- The keys' and the values' arrays, as launched. -/
def arrs : sProp 𝕄 := iprop((((c : Thread nD τ).loc main_arg2) ↦{fullShare} m ((c : Thread nD τ).loc main_arg2)) ∗ (((c : Thread nD τ).loc main_arg3) ↦{fullShare} m ((c : Thread nD τ).loc main_arg3)))

/-- A device's credit at launch. -/
def chits : sProp 𝕄 := iprop(chit c bar 2 ∗ (chit c (xr 0) NX ∗ chit c (xr 1) NX ∗ chit c (xr 2) NX) ∗ (chit c (sr 0) NR ∗ chit c (sr 1) NR ∗ chit c (sr 2) NR))

abbrev scratches : sProp 𝕄 := Pipeline.scopedRest (Ix := Unit) (Name := ℕ) (U := UU) (Lvl := ℕ) (Val := Elt F) cfg0.spec c

theorem talk_intro : iprop(payToks c ∗ (bigSep Finset.univ fun k : Cell => spot c k) ∗ chits c)
    ⊢ (iprop(door c ∗ (hop c 0 ∗ hop c 1 ∗ hop c 2) ∗ (lap c 0 ∗ lap c 1 ∗ lap c 2)) : sProp 𝕄) := by
  rw [pay_list, cells_list]
  unfold chits door hop lap
  iintro ⟨⟨TB, TN, ⟨A0, A1, A2⟩, ⟨B0, B1, B2⟩, ⟨C0, C1, C2⟩, ⟨D0, D1, D2⟩⟩, ⟨SB, ⟨a0, a1, a2⟩, ⟨b0, b1, b2⟩, ⟨c0, c1, c2⟩, ⟨d0, d1, d2⟩⟩, CB, ⟨X0, X1, X2⟩, ⟨Y0, Y1, Y2⟩⟩
  isplitl [TB TN SB CB]
  · isplitl [CB]; · iexact CB
    isplitl [SB]; · iexact SB
    isplitl [TB] <;> iassumption
  isplitl [A0 A1 A2 B0 B1 B2 a0 a1 a2 b0 b1 b2 X0 X1 X2]
  · isplitl [A0 B0 a0 b0 X0]
    · isplitl [A0 B0]; · isplitl [A0] <;> iassumption
      isplitl [X0]; · iexact X0
      isplitl [a0] <;> iassumption
    isplitl [A1 B1 a1 b1 X1]
    · isplitl [A1 B1]; · isplitl [A1] <;> iassumption
      isplitl [X1]; · iexact X1
      isplitl [a1] <;> iassumption
    isplitl [A2 B2]; · isplitl [A2] <;> iassumption
    isplitl [X2]; · iexact X2
    isplitl [a2] <;> iassumption
  · isplitl [C0 D0 c0 d0 Y0]
    · isplitl [C0 D0]; · isplitl [C0] <;> iassumption
      isplitl [Y0]; · iexact Y0
      isplitl [c0] <;> iassumption
    isplitl [C1 D1 c1 d1 Y1]
    · isplitl [C1 D1]; · isplitl [C1] <;> iassumption
      isplitl [Y1]; · iexact Y1
      isplitl [c1] <;> iassumption
    isplitl [C2 D2]; · isplitl [C2] <;> iassumption
    isplitl [Y2]; · iexact Y2
    isplitl [c2] <;> iassumption

/-- All that the work starts with, from the buffers and the counters as launched. -/
theorem before_intro :
    iprop(payToks c ∗ (bigSep Finset.univ fun k : Cell => spot c k) ∗ locals c ∗ chits c ∗ arrs m c ∗ scratches c
        ∗ args m c ∗ (∃ f, held c cc0_stg3_0 f) ∗ ow c (debt c))
      ⊢ before m c := by
  unfold scratches
  rw [scopedRest0_eq]
  unfold before locals arrs
  rw [empties_eq]
  unfold free bufs
  iintro ⟨HT, HS, ⟨⟨K0, K1⟩, ⟨V0, V1⟩⟩, HC, ⟨HK, HV⟩, ⟨S0, S1, S2, S3, S4, S5, S6, S7, S8, S9, S10⟩, Hargs, Hout, HO⟩
  ihave Ht := (talk_intro (F := F) c) $$ [HT HS HC]
  · isplitl [HT]; · iexact HT
    isplitl [HS] <;> iassumption
  icases Ht with ⟨Hd, Hh, Hl⟩
  ihave X := (x_open (F := F) c) $$ S0
  icases X with ⟨X0, X1, X2, X3⟩
  ihave A := (a_open (F := F) c) $$ S9
  ihave R := (r_open (F := F) c) $$ S10
  ihave KS := (k_open (F := F) c) $$ S4
  icases KS with ⟨k0, k1⟩
  ihave VS := (v_open (F := F) c) $$ S5
  icases VS with ⟨v0, v1⟩
  ihave HK := (kArr m c) $$ HK
  icases HK with ⟨HK0, HK1⟩
  ihave HV := (vArr m c) $$ HV
  icases HV with ⟨HV0, HV1⟩
  isplitl [X0 X1 X2 R]
  · isplitl [X0 X1 X2]
    · isplitl [X2]; · iexact X2
      isplitl [X1] <;> iassumption
    iexact R
  isplitl [Hargs]; · iexact Hargs
  isplitl [Hout]; · iexact Hout
  isplitl [X3]; · iexact X3
  isplitl [S1 S2 S3 S6 S7 S8]
  · isplitl [S1]; · iexact S1
    isplitl [S2]; · iexact S2
    isplitl [S3]; · iexact S3
    isplitl [S6]; · iexact S6
    isplitl [S7] <;> iassumption
  isplitl [K0 K1 V0 V1 k0 k1 v0 v1 HK0 HK1 HV0 HV1]
  · isplitl [K0 V0 k0 v0 HK0 HV0]
    · isplitl [k0]; · iexact k0
      isplitl [v0]; · iexact v0
      isplitl [HK0]; · iexact HK0
      isplitl [HV0]; · iexact HV0
      isplitl [K0] <;> iassumption
    · isplitl [k1]; · iexact k1
      isplitl [v1]; · iexact v1
      isplitl [HK1]; · iexact HK1
      isplitl [HV1]; · iexact HV1
      isplitl [K1] <;> iassumption
  isplitl [A]; · iexact A
  isplitl [Hd]; · iexact Hd
  isplitl [Hh]; · iexact Hh
  isplitl [Hl] <;> iassumption

/-- And what is left of it: the buffers, the counters at zero, the arguments as they were, the result. -/
theorem after_elim :
    after m c ⊢ iprop((arrs m c ∗ unscopedSems0 c ∗ ownSems c ∗ scratches c) ∗ args m c ∗ held c cc0_stg3_0 (outOf m c) ∗ ow c 0) := by
  unfold scratches
  rw [scopedRest0_eq, own_list, unscoped_list]
  unfold after arrs
  unfold free kit bufs hopZ lapZ
  iintro ⟨Hargs, Hout, ⟨X0, X1, X2, X3⟩, ⟨W1, W2, W3, W6, W7, W8⟩, ⟨⟨k0, v0, HK0, HV0, K0, V0⟩, ⟨k1, v1, HK1, HV1, K1, V1⟩⟩, A, ⟨R0, R1, R2⟩, HB, ⟨⟨a0, b0⟩, ⟨a1, b1⟩, ⟨a2, b2⟩⟩, ⟨⟨c0, d0⟩, ⟨c1, d1⟩, ⟨c2, d2⟩⟩, HO⟩
  ihave HK := (kArr' m c) $$ [HK0 HK1]
  · isplitl [HK0] <;> iassumption
  ihave HV := (vArr' m c) $$ [HV0 HV1]
  · isplitl [HV0] <;> iassumption
  ihave S0 := (x_shut (F := F) c) $$ [X0 X1 X2 X3]
  · isplitl [X0]; · iexists _; iexact X0
    isplitl [X1]; · iexists _; iexact X1
    isplitl [X2]; · iexists _; iexact X2
    iexists _; iexact X3
  ihave S9 := (a_shut (F := F) c) $$ A
  ihave S10 := (r_shut (F := F) c) $$ [R0 R1 R2]
  · isplitl [R0]; · iexists _; iexact R0
    isplitl [R1]; · iexists _; iexact R1
    iexists _; iexact R2
  ihave S4 := (k_shut (F := F) c) $$ [k0 k1]
  · isplitl [k0] <;> iassumption
  ihave S5 := (v_shut (F := F) c) $$ [v0 v1]
  · isplitl [v0] <;> iassumption
  isplitr [Hargs Hout HO]
  · isplitl [HK HV]; · isplitl [HK] <;> iassumption
    isplitl [HB]; · iexact HB
    isplitl [a0 a1 a2 b0 b1 b2 c0 c1 c2 d0 d1 d2 K0 K1 V0 V1]
    · isplitl [a0]; · iexact a0
      isplitl [a1]; · iexact a1
      isplitl [a2]; · iexact a2
      isplitl [b0]; · iexact b0
      isplitl [b1]; · iexact b1
      isplitl [b2]; · iexact b2
      isplitl [c0]; · iexact c0
      isplitl [c1]; · iexact c1
      isplitl [c2]; · iexact c2
      isplitl [d0]; · iexact d0
      isplitl [d1]; · iexact d1
      isplitl [d2]; · iexact d2
      isplitl [K0]; · iexact K0
      isplitl [K1]; · iexact K1
      isplitl [V0] <;> iassumption
    isplitl [S0]; · iexact S0
    isplitl [W1]; · iexists _; iexact W1
    isplitl [W2]; · iexists _; iexact W2
    isplitl [W3]; · iexact W3
    isplitl [S4]; · iexact S4
    isplitl [S5]; · iexact S5
    isplitl [W6]; · iexact W6
    isplitl [W7]; · iexact W7
    isplitl [W8]; · iexact W8
    isplitl [S9] <;> iassumption
  · isplitl [Hargs]; · iexact Hargs
    isplitl [Hout] <;> iassumption

/-! ## The one point of the pipeline -/

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device brings to its body. -/
def start : sProp 𝕄 := iprop(G' m c ∗ chits c ∗ levAts L lv ∗ arrs m c)
def Φ₀ : sProp 𝕄 := iprop(start m c ∗ scratches c)
/-- What it leaves. -/
def Φ₁ : sProp 𝕄 := iprop(arrs m c ∗ unscopedSems0 c ∗ ownSems c ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => outOf m c
  Φ t := match t with
    | ⟨0, _⟩ => Φ₀ m c
    | ⟨_ + 1, _⟩ => Φ₁ m c
  q _ := fullShare
  owed t := match t with
    | ⟨0, _⟩ => debt c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_in (b : Ref sig .tc) (X : b.ty.Contents (Elt F)) : stg c b X ⊢ (held c b X : sProp 𝕄) := by
  iintro ⟨%f, %h, H⟩
  subst h; iexact H
theorem stg_out (b : Ref sig .tc) (X : b.ty.Contents (Elt F)) : (held c b X : sProp 𝕄) ⊢ stg c b X := by
  iintro H; iexists X; isplitr; · (ipureintro; rfl)
  iexact H

theorem before_0 (d) : (dats m ρ 0 c).before (0 : Fin 4) t₀ d = xstg m c := by unfold Dat.before; rw [if_pos (fetch0_0 t₀)]; rfl
theorem before_1 (d) : (dats m ρ 0 c).before (1 : Fin 4) t₀ d = wqstg m c := by unfold Dat.before; rw [if_pos (fetch0_1 t₀)]; rfl
theorem before_2 (d) : (dats m ρ 0 c).before (2 : Fin 4) t₀ d = wostg m c := by unfold Dat.before; rw [if_pos (fetch0_2 t₀)]; rfl

def bodyPre : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost : sProp 𝕄 :=
  iprop(Φ₁ m c ∗ (dats m ρ 0 c).owesAt () t₀.succ
    ∗ stg c cc0_stg0_0 (xstg m c) ∗ stg c cc0_stg1_0 (wqstg m c) ∗ stg c cc0_stg2_0 (wostg m c) ∗ stg c cc0_stg3_0 (outOf m c))

theorem runs_device (Q : Dev nD → sProp 𝕄) : Q c ⊢ runs (F := F) c (Prog.lift .deviceId) Q := by
  unfold runs
  have e : wp frame (wpE (defs₀ (F := F)) 𝒱₀ (c : Thread nD τ) none) Set.univ (Prog.lift .deviceId) Q
      = wp frame (wpE (defs₀ (F := F)) 𝒱₀ (c : Thread nD τ) none) Set.univ (Prog.ret c) Q := wp_deviceId ..
  rw [e]
  exact fupd_intro

theorem body_entails : bodyPre m ρ c ⊢ runs c (body (F := F)) (fun _ => bodyPost m ρ c) := by
  unfold bodyPre Φ₀ start G' records body
  rw [runs_bind]
  iintro ⟨⟨⟨⟨%K, ⟨HI, HR⟩, HT, HS, HL⟩, HC, Hlev, Harr⟩, Hscr⟩, Ho, ⟨%d0, H0⟩, ⟨%d1, H1⟩, ⟨%d2, H2⟩, ⟨%d3, %f3, -, H3⟩⟩
  rw [before_0, before_1, before_2]
  ihave H0 := (stg_in c _ _) $$ H0
  ihave H1 := (stg_in c _ _) $$ H1
  ihave H2 := (stg_in c _ _) $$ H2
  unfold Dat.owesAt Pipeline.owesWithin
  icases Ho with ⟨%W, %hW, HO⟩
  rw [show (dats m ρ 0 c).owed t₀.castSucc = debt c from rfl]
  ihave Hb := (before_intro m c) $$ [HT HS HL HC Harr Hscr H0 H1 H2 H3 HO]
  · isplitl [HT]; · iexact HT
    isplitl [HS]; · iexact HS
    isplitl [HL]; · iexact HL
    isplitl [HC]; · iexact HC
    isplitl [Harr]; · iexact Harr
    isplitl [Hscr]; · iexact Hscr
    isplitl [H0 H1 H2]
    · unfold args
      isplitl [H0]; · iexact H0
      isplitl [H1] <;> iassumption
    isplitl [H3]; · iexists f3; iexact H3
    unfold ow; iexists W; iexact HO
  iapply (runs_device c _)
  iapply (work_spec m K c (fun _ => bodyPost m ρ c)) $$ [HI HR Hlev Hb]
  · isplitl [HI HR Hlev]
    · unfold ctx
      isplitl [HI]; · iexact HI
      isplitl [HR] <;> iassumption
    iexact Hb
  iintro Ha
  ihave Ha := (after_elim m c) $$ Ha
  unfold args ow
  icases Ha with ⟨HΦ, ⟨H0, H1, H2⟩, H3, ⟨%W', HO⟩⟩
  unfold bodyPost Φ₁
  isplitl [HΦ]; · iexact HΦ
  isplitl [HO]
  · unfold Dat.owesAt Pipeline.owesWithin
    iexists W'
    isplitr; · (ipureintro; exact fun _ _ => Or.inl trivial)
    iexact HO
  isplitl [H0]; · iapply (stg_out c _ _); iexact H0
  isplitl [H1]; · iapply (stg_out c _ _); iexact H1
  isplitl [H2]; · iapply (stg_out c _ _); iexact H2
  iapply (stg_out c _ _); iexact H3

set_option maxRecDepth 1000000 in
theorem body_obligation : BodyObligation (dats (F := F) m ρ 0 c) (defs₀ (F := F)) 𝒱₀ () Set.univ := fun t => by
  rw [fin_N t]
  rw [bigSep_W, bigSep_W]
  have e : bodyAt0 t₀ = body (F := F) := by
    unfold bodyAt0
    rw [cc0_body_eq_skeleton]
    exact body_eq
  have h := body_entails m ρ c
  rw [← e] at h
  simp only [owns_whole_eq]
  show bodyPre m ρ c ⊢ wp frame (wpE (defs₀ (F := F)) 𝒱₀ c none) Set.univ (bodyAt0 t₀) (fun _ => bodyPost m ρ c)
  exact h

end Cert.KernelIdeal.Att
end
-- ==== Proof.Run.lean ====
module

public import proofs.«01_k».proof.Proof.Launch
public import Idealize.ShloMosaic.Adequacy
public import Idealize.ShloMosaic.Init
public import Idealize.ShloMosaic.Lib.Pipeline.ValueKit
public import Idealize.ShloMosaic.Lib.Pipeline.CollectiveSegs

/-!
# The run

The four devices' programs, launched together: they terminate, the result array of each holds what its work stored,
the arguments are as they were, and every counter is at zero.
-/

@[expose] public section

set_option maxRecDepth 16384

noncomputable section

namespace Cert.KernelIdeal.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped Idealize.SL.RA
open scoped Idealize.SL.RA.PCS

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg) (c : Dev nD)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv ∗ Pipeline.launchCred debt c ∗ prngReg c (ρ c) ∗ G' m c)
      ⊢ |={Set.univ}=> iprop(start m c ∗ emp) := by
  rw [Pipeline.unscopedRestP_none, unscopedRest0_eq]
  unfold start arrs
  iintro ⟨Harr, Hlev, HC, -, HG⟩
  ihave HC := (credits c) $$ HC
  imodintro
  isplitl [Harr Hlev HC HG]
  · isplitl [HG]; · iexact HG
    isplitl [HC]; · unfold chits; iexact HC
    isplitl [Hlev]; · iexact Hlev
    iexact Harr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((arrs m c ∗ unscopedSems0 c) ∗ Pipeline.ownSems0 osem c ∗ Pipeline.scopedRest cfg0.spec c) := by
  rw [show (dats m ρ 0 c).Φ (Fin.last cfg0.N) = Φ₁ m c from rfl]
  unfold Φ₁
  iintro ⟨HA, HU, HO, HS⟩
  isplitl [HA HU]; · isplitl [HA] <;> iassumption
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    may_wait c _ 0 _ (lv_other c _ (by fin_cases w <;> fin_cases s <;> decide)) (by
      rcases t with ⟨_ | _, ht⟩
      · exact above_all c
      · exact Above.zero 0)

/-! ## The result array -/

/-- The result array ends at what the body left in its staging block. -/
theorem result_eq (c : Dev nD) : (dats m ρ 0 c).arrAt 3 cfg0.N = outOf m c :=
  (dats m ρ 0 c).arrAt_eq_of_after_last 3 t₀ (by decide +kernel) (outOf m c) (fun j => rfl)

/-! ## The run -/

/-- The keys' and the values' arrays on device `c` are as at launch, and its unscoped counters are at zero. -/
def Kept (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

theorem arrs_read (s' : Phys nD τ sig (Elt F)) (c : Dev nD) :
    iprop(arrs m c ∗ SI s') ⊢ (iprop(⌜s'.mem.mem ((c : Thread nD τ).loc main_arg2) = m ((c : Thread nD τ).loc main_arg2) ∧ s'.mem.mem ((c : Thread nD τ).loc main_arg3) = m ((c : Thread nD τ).loc main_arg3)⌝ ∗ SI s') : sProp 𝕄) := by
  let ℓ : Fin 2 → Loc nD τ sig := ![(c : Thread nD τ).loc main_arg2, (c : Thread nD τ).loc main_arg3]
  have e : (bigSep Finset.univ fun b : Fin 2 => ((ℓ b) ↦{fullShare} m (ℓ b)) : sProp 𝕄) = arrs m c := bigSep_univ_two _
  iintro ⟨H, HS⟩
  ihave H := (Entails.of_eq e.symm) $$ H
  ihave R := (pointsTo_read_all Finset.univ ℓ (fun b => m (ℓ b)) s' fullShare) $$ [H HS]
  · isplitl [H] <;> iassumption
  icases R with ⟨%h, HS⟩
  isplitr
  · ipureintro; exact ⟨h 0 (Finset.mem_univ _), h 1 (Finset.mem_univ _)⟩
  · iexact HS

/-- What the run ends with: on each device the result, the five arguments as they were; every counter at zero. -/
def Final (r : PUnit × MemSt nD τ sig (Elt F)) : Prop :=
  (∀ c : Dev nD, r.2.mem ((c.tc : Thread nD τ).loc main_v1) = outOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

set_option maxRecDepth 1000000 in
/-- From any memory with zero counters, for any float values: every weakly fair execution of the four devices' programs
    terminates, in a state as `Final` says. -/
theorem run_main : θ_run defs (onTc (τ := τ) (main (F := F))) (s₀ m ρ) (Final m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := debt) (howed₀ := fun _ => rfl) (howedN := fun _ => rfl)
    (L := L) (lv := lv) (hL := L_of_ne) (hwaits := waits m ρ)
    (G := G m) (G' := G' m) (u₀ := u₀)
    (hu₀ := by
      iintro Hu
      ihave H := u₀_split $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(arrs m c ∗ unscopedSems0 c)) (Z := fun _ => iprop(emp))
    (hX := start_intro m ρ) (hin := phi0_intro m ρ) (hout := phi1_exit m ρ)
    (QY := Kept m)
    (hY := fun c s' => by
      iintro ⟨⟨HA, Hu⟩, -, HSI⟩
      ihave R := (arrs_read m s' c) $$ [HA HSI]
      · isplitl [HA] <;> iassumption
      icases R with ⟨%h, HSI⟩
      ihave R := (Pipeline.unscopedSems0_read (X := unscopedSems0 c) (c := c) fupd_intro s') $$ [Hu HSI]
      · isplitl [Hu] <;> iassumption
      imod R with ⟨%h', HSI⟩
      imodintro
      isplitr
      · ipureintro; exact ⟨h, h'⟩
      · iexact HSI)
    (hQ := fun _ h hs => ⟨fun c => ⟨((h c).1 3).trans (result_eq m ρ c), ((h c).1 0).trans ((dats m ρ 0 c).arrAt_in 0 rfl _),
      ((h c).1 1).trans ((dats m ρ 0 c).arrAt_in 1 rfl _), (h c).2.2.1.1, (h c).2.2.1.2,
      ((h c).1 2).trans ((dats m ρ 0 c).arrAt_in 2 rfl _)⟩, sem_eq_zero hs fun c => (h c).2.2.2⟩)

/-- The frame: the arguments as they were, the counters at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_main m ρ)

end Cert.KernelIdeal.Att
end
-- ==== Proof.Kern.lean ====
module

public import proofs.«01_k».proof.Proof.Content
public import Idealize.ShloMosaic.PureOps.Ideal.Laws
public import Idealize.ShloMosaic.Lib.Pointwise
public import Idealize.ShloMosaic.Lib.ValueLayout

/-!
# The kernel's numbers over the extended reals

Each step of the kernel's arithmetic, read at an index: casts are the identity, products are sums of products.
-/

@[expose] public section

set_option maxRecDepth 16384

noncomputable section

namespace Cert.KernelIdeal.Att

open Idealize.ShloMosaic Idealize.SL.Sem Cert.KernelIdeal.Gen
open Idealize.ShloMosaic.TcCoe

/-- The scale of the scores. -/
def scl : EReal := Ideal.ofBits .f32 0x3DB504F3#32

theorem pay1_at (x : Vec Ideal S1x256x1024 .f32) (i : Fin 256) (k : Fin 1024) : k0_pay1 x (ix3 (0 : Fin 1) i k) = x (ix3 (0 : Fin 1) i k) := by
  pointwise [k0_pay1]

theorem pay2_at (x : Vec Ideal S1024x1024 .f32) (i k : Fin 1024) : k0_pay2 x (ix2 i k) = x (ix2 i k) := by
  pointwise [k0_pay2]

theorem pay3_at (x : Vec Ideal S1024x1024 .f32) (i k : Fin 1024) : k0_pay3 x (ix2 i k) = x (ix2 i k) := by
  pointwise [k0_pay3]

theorem pay5_at (x : FVec Ideal S256x1024 .f32) (i : Fin 256) (k : Fin 1024) : k0_pay5 x (ix2 i k) = x (ix2 i k) * scl := by
  pointwise [k0_pay5, scl]

theorem pay4_at (x : Vec Ideal S1x256x1024 .bf16) (w : Vec Ideal S1024x1024 .bf16) (i : Fin 256) (k : Fin 1024) :
    k0_pay4 x w (ix2 i k) = ∑ j : Fin 1024, x (ix3 (0 : Fin 1) i j) * w (ix2 j k) := by
  pointwise [k0_pay4, dot_S256x1024_S1024x1024_S256x1024_1_0_0_1_n_n]

theorem pay16_at (x : Vec Ideal S64x1024 .bf16) (w : Vec Ideal S1024x1024 .bf16) (i : Fin 64) (k : Fin 1024) :
    k0_pay16 x w (ix2 i k) = ∑ j : Fin 1024, x (ix2 i j) * w (ix2 j k) := by
  pointwise [k0_pay16, dot_S64x1024_S1024x1024_S64x1024_1_0_0_1_n_n]

theorem pay17_at (x : FVec Ideal S64x1024 .f32) (i : Fin 64) (k : Fin 1024) : k0_pay17 x (ix3 (0 : Fin 1) i k) = x (ix2 i k) := by
  pointwise [k0_pay17]

theorem pay8_at (k v : Vec Ideal S1024x128 .bf16) (q : Vec Ideal S64x128 .bf16) (i : Fin 64) (d : Fin 128) :
    k0_pay8 k v q (ix2 i d) = (∑ t : Fin 1024, Ideal.exp (∑ e : Fin 128, q (ix2 i e) * k (ix2 t e)) * v (ix2 t d))
      * Ideal.div 1 (∑ t : Fin 1024, Ideal.exp (∑ e : Fin 128, q (ix2 i e) * k (ix2 t e))) := by
  pointwise [k0_pay8, dot_S64x128_S1024x128_S64x1024_1_1_0_0_n_n, dot_S64x1024_S1024x128_S64x128_1_0_0_1_n_n]

theorem pay6_at (x : Vec Ideal S1x16x64x8x128 .f32) (t c : Fin 1024) :
    k0_pay6 x (ix2 t c) = x (ix5 (0 : Fin 1) (⟨t.val / 64, by omega⟩ : Fin 16) (⟨t.val % 64, by omega⟩ : Fin 64) (⟨c.val / 128, by omega⟩ : Fin 8) (⟨c.val % 128, by omega⟩ : Fin 128)) := by
  pointwise [k0_pay6]

end Cert.KernelIdeal.Att
end
-- ==== Proof.KernOut.lean ====
module

public import proofs.«01_k».proof.Proof.Kern

/-!
# The kernel's result at an index

What a device's result holds at a row and a column, as sums over the arrays that the devices were given.
-/

@[expose] public section

set_option maxRecDepth 16384

noncomputable section

namespace Cert.KernelIdeal.Att

open Idealize.ShloMosaic Idealize.SL.Sem Cert.KernelIdeal.Gen
open Idealize.ShloMosaic.TcCoe

theorem pay7_at (x : Vec Ideal S1x16x64x8x128 .f32) (t c : Fin 1024) :
    k0_pay7 x (ix2 t c) = x (ix5 (0 : Fin 1) (⟨t.val / 64, by omega⟩ : Fin 16) (⟨t.val % 64, by omega⟩ : Fin 64) (⟨c.val / 128, by omega⟩ : Fin 8) (⟨c.val % 128, by omega⟩ : Fin 128)) := by
  pointwise [k0_pay7]

variable (m : (ℓ : Loc nD τ sig) → Buf (Elt Ideal) ℓ)

theorem xstg_at (c : Dev nD) (j : S1x256x1024.Idx) : xstg m c j = m ((c : Thread nD τ).loc main_arg0) j := by
  refine congrArg (m ((c : Thread nD τ).loc main_arg0)) (funext fun a => Fin.ext ?_)
  show 0 * _ + 1 * (j a).val = (j a).val
  omega
theorem wqstg_at (c : Dev nD) (j : S1024x1024.Idx) : wqstg m c j = m ((c : Thread nD τ).loc main_arg1) j := by
  refine congrArg (m ((c : Thread nD τ).loc main_arg1)) (funext fun a => Fin.ext ?_)
  show 0 * _ + 1 * (j a).val = (j a).val
  omega
theorem wostg_at (c : Dev nD) (j : S1024x1024.Idx) : wostg m c j = m ((c : Thread nD τ).loc main_arg4) j := by
  refine congrArg (m ((c : Thread nD τ).loc main_arg4)) (funext fun a => Fin.ext ?_)
  show 0 * _ + 1 * (j a).val = (j a).val
  omega

theorem blk_at (M : Memref sig .tc .hbm S4x16x4x64x32x128 .f32) (c b qb : Fin 4) (f : M.view.ty.Contents (Elt Ideal)) (s : Fin 16) (r : Fin 64) (h : Fin 8) (d : Fin 128) :
    (blkOf M c b qb).view.read (Elt Ideal) f (ix4 s r h d) = M.view.read (Elt Ideal) f (ix6 b s qb r (⟨8 * c.val + h.val, by omega⟩ : Fin 32) d) := by
  have hc : S1x16x1x64x8x128.ShapeCasts S16x64x8x128 := by decide +kernel
  have e := Memref.read_squeeze_slice M (Rect.unit (s := S4x16x4x64x32x128) ![b.val, 0, qb.val, 0, 8 * c.val, 0] S1x16x1x64x8x128.size (blk_inb c b qb)) (fun _ => rfl) squeezes_S1x16x1x64x8x128_S16x64x8x128 hc f
  refine (congrFun e _).trans ?_
  have e2 : ∀ v : Vec Ideal S1x16x1x64x8x128 .f32, shapeCast S16x64x8x128 v hc (ix4 s r h d) = v (ix6 (0 : Fin 1) s (0 : Fin 1) r h d) := by
    intro v
    pointwise
  refine (e2 _).trans ?_
  show M.view.read (Elt Ideal) f ((Rect.unit (s := S4x16x4x64x32x128) ![b.val, 0, qb.val, 0, 8 * c.val, 0] S1x16x1x64x8x128.size (blk_inb c b qb)).emb _) = _
  congr 1
  funext a
  apply Fin.ext
  fin_cases a <;> simp [Rect.emb, Rect.unit, ix6]

theorem kRaw_at (c b qb : Fin 4) (s : Fin 16) (r : Fin 64) (h : Fin 8) (d : Fin 128) :
    kRaw m c b qb (ix5 (0 : Fin 1) s r h d) = m ((c : Thread nD τ).loc main_arg2) (ix6 b s qb r (⟨8 * c.val + h.val, by omega⟩ : Fin 32) d) := by
  have e2 : ∀ v : Vec Ideal S16x64x8x128 .f32, shapeCast S1x16x64x8x128 v (Eq.symm shapeCasts_S1x16x64x8x128_S16x64x8x128) (ix5 (0 : Fin 1) s r h d) = v (ix4 s r h d) := by
    intro v
    pointwise
  exact (e2 _).trans (blk_at kHbm c b qb _ s r h d)

theorem vRaw_at (c b qb : Fin 4) (s : Fin 16) (r : Fin 64) (h : Fin 8) (d : Fin 128) :
    vRaw m c b qb (ix5 (0 : Fin 1) s r h d) = m ((c : Thread nD τ).loc main_arg3) (ix6 b s qb r (⟨8 * c.val + h.val, by omega⟩ : Fin 32) d) := by
  have e2 : ∀ v : Vec Ideal S16x64x8x128 .f32, shapeCast S1x16x64x8x128 v (Eq.symm shapeCasts_S1x16x64x8x128_S16x64x8x128) (ix5 (0 : Fin 1) s r h d) = v (ix4 s r h d) := by
    intro v
    pointwise
  exact (e2 _).trans (blk_at vHbm c b qb _ s r h d)

/-! ## One device's part -/

/-- The arrays that device `c` was given. -/
abbrev gX (c : Dev nD) : FVec Ideal S1x256x1024 .f32 := m ((c : Thread nD τ).loc main_arg0)
abbrev gQ (c : Dev nD) : FVec Ideal S1024x1024 .f32 := m ((c : Thread nD τ).loc main_arg1)
abbrev gK (c : Dev nD) : FVec Ideal S4x16x4x64x32x128 .f32 := m ((c : Thread nD τ).loc main_arg2)
abbrev gV (c : Dev nD) : FVec Ideal S4x16x4x64x32x128 .f32 := m ((c : Thread nD τ).loc main_arg3)
abbrev gO (c : Dev nD) : FVec Ideal S1024x1024 .f32 := m ((c : Thread nD τ).loc main_arg4)

/-- The scaled query of row `i` of batch `b`, at column `k` of device `c`'s columns. -/
def qv (c b : Fin 4) (i : Fin 256) (k : Fin 1024) : EReal :=
  (∑ j : Fin 1024, gX m b (ix3 (0 : Fin 1) i j) * gQ m c (ix2 j k)) * scl
/-- Key `t` of those that query block `qb` attends to, at entry `d` of head `h` of device `c`. -/
def kv (c b qb : Fin 4) (t : Fin 1024) (h : Fin 8) (d : Fin 128) : EReal :=
  gK m c (ix6 b (⟨t.val / 64, by omega⟩ : Fin 16) qb (⟨t.val % 64, by omega⟩ : Fin 64) (⟨8 * c.val + h.val, by omega⟩ : Fin 32) d)
/-- The value beside it. -/
def vv (c b qb : Fin 4) (t : Fin 1024) (h : Fin 8) (d : Fin 128) : EReal :=
  gV m c (ix6 b (⟨t.val / 64, by omega⟩ : Fin 16) qb (⟨t.val % 64, by omega⟩ : Fin 64) (⟨8 * c.val + h.val, by omega⟩ : Fin 32) d)
/-- Column `d` of head `h`, among a device's columns. -/
def hcol (h : Fin 8) (d : Fin 128) : Fin 1024 := ⟨128 * h.val + d.val, by omega⟩
/-- Row `r` of query block `qb`. -/
def qrow (qb : Fin 4) (r : Fin 64) : Fin 256 := ⟨64 * qb.val + r.val, by omega⟩

theorem qOf_at (c b : Fin 4) (i : Fin 256) (k : Fin 1024) : qOf m c b (ix2 i k) = qv m c b i k := by
  unfold qOf qv xOf
  rw [pay5_at, pay4_at]
  congr 1
  refine Finset.sum_congr rfl fun j _ => ?_
  rw [pay1_at, pay2_at, xstg_at, wqstg_at]

theorem kOf_at (c b qb : Fin 4) (t : Fin 1024) (h : Fin 8) (d : Fin 128) : kOf m c b qb (ix2 t (hcol h d)) = kv m c b qb t h d := by
  unfold kOf kv
  rw [pay6_at, kRaw_at]
  have e1 : (hcol h d).val / 128 = h.val := by unfold hcol; simp only; omega
  have e2 : (hcol h d).val % 128 = d.val := by unfold hcol; simp only; omega
  congr 2 <;> apply Fin.ext <;> simp only [e1, e2]

theorem vOf_at (c b qb : Fin 4) (t : Fin 1024) (h : Fin 8) (d : Fin 128) : vOf m c b qb (ix2 t (hcol h d)) = vv m c b qb t h d := by
  unfold vOf vv
  rw [pay7_at, vRaw_at]
  have e1 : (hcol h d).val / 128 = h.val := by unfold hcol; simp only; omega
  have e2 : (hcol h d).val % 128 = d.val := by unfold hcol; simp only; omega
  congr 2 <;> apply Fin.ext <;> simp only [e1, e2]

theorem colOf_at (x : Vec Ideal S1024x1024 .bf16) (h : Fin 8) (t : Fin 1024) (d : Fin 128) : colOf x h (ix2 t d) = x (ix2 t (hcol h d)) := by
  unfold colOf
  congr 1
  funext a
  apply Fin.ext
  fin_cases a <;> simp [Rect.emb, Rect.unit, ix2, hcol]

theorem qcolOf_at (x : Vec Ideal S256x1024 .bf16) (b : Fin 4) (h : Fin 8) (r : Fin 64) (d : Fin 128) : qcolOf x b h (ix2 r d) = x (ix2 (qrow b r) (hcol h d)) := by
  unfold qcolOf
  congr 1
  funext a
  apply Fin.ext
  fin_cases a <;> simp [Rect.emb, Rect.unit, ix2, hcol, qrow]

/-- The score of row `r` of query block `qb` against key `t`, in head `h` of device `c`. -/
def sv (c b qb : Fin 4) (r : Fin 64) (h : Fin 8) (t : Fin 1024) : EReal :=
  ∑ e : Fin 128, qv m c b (qrow qb r) (hcol h e) * kv m c b qb t h e

/-- The context of that row and head. -/
def cv (c b qb : Fin 4) (r : Fin 64) (h : Fin 8) (d : Fin 128) : EReal :=
  (∑ t : Fin 1024, Ideal.exp (sv m c b qb r h t) * vv m c b qb t h d) * Ideal.div 1 (∑ t : Fin 1024, Ideal.exp (sv m c b qb r h t))

theorem ctxOf_at (c b qb : Fin 4) (r : Fin 64) (h : Fin 8) (d : Fin 128) :
    ctxOf (kOf m c b qb) (vOf m c b qb) (qOf m c b) qb (ix2 r (hcol h d)) = cv m c b qb r h d := by
  have e1 : hd (hcol h d) = h := by apply Fin.ext; unfold hd hcol; simp only; omega
  have e2 : (⟨(hcol h d).val % 128, Nat.mod_lt _ (by omega)⟩ : Fin 128) = d := by apply Fin.ext; unfold hcol; simp only; omega
  have e : ctxOf (kOf m c b qb) (vOf m c b qb) (qOf m c b) qb (ix2 r (hcol h d)) =
      k0_pay8 (colOf (kOf m c b qb) (hd (hcol h d))) (colOf (vOf m c b qb) (hd (hcol h d))) (qcolOf (qOf m c b) qb (hd (hcol h d)))
        (ix2 r (⟨(hcol h d).val % 128, Nat.mod_lt _ (by omega)⟩ : Fin 128)) := rfl
  rw [e, e1, e2, pay8_at]
  unfold cv sv
  simp only [colOf_at, qcolOf_at, kOf_at, vOf_at, qOf_at]

/-- Device `c`'s part of the result at row `r` of query block `qb` of batch `b`. -/
def pv (c b qb : Fin 4) (r : Fin 64) (n : Fin 1024) : EReal :=
  ∑ h : Fin 8, ∑ d : Fin 128, cv m c b qb r h d * gO m c (ix2 (hcol h d) n)

theorem tileOf_at (c b qb : Fin 4) (r : Fin 64) (n : Fin 1024) : tileOf m c b qb (ix3 (0 : Fin 1) r n) = pv m c b qb r n := by
  unfold tileOf pv
  rw [pay17_at, pay16_at]
  rw [Fin.sum_univ_tiles 8 128 (by norm_num)]
  refine Finset.sum_congr rfl fun h _ => Finset.sum_congr rfl fun d _ => ?_
  have e : ∀ p, (⟨h.val * 128 + d.val, p⟩ : Fin 1024) = hcol h d := fun p => Fin.ext (by unfold hcol; simp only; omega)
  rw [e, ctxOf_at, pay3_at, wostg_at]

theorem PS_at (c b qb : Fin 4) (r : Fin 64) (n : Fin 1024) : PS m c (ix3 b (qrow qb r) n) = pv m c b qb r n := by
  have e1 : ∀ p, (⟨(qrow qb r).val / 64, p⟩ : Fin 4) = qb := fun p => Fin.ext (by unfold qrow; simp only; omega)
  have e2 : ∀ p, (⟨(qrow qb r).val % 64, p⟩ : Fin 64) = r := fun p => Fin.ext (by unfold qrow; simp only; omega)
  have e : PS m c (ix3 b (qrow qb r) n) = tileOf m c b (⟨(qrow qb r).val / 64, by omega⟩ : Fin 4) (ix3 (0 : Fin 1) (⟨(qrow qb r).val % 64, by omega⟩ : Fin 64) n) := rfl
  rw [e, e1, e2, tileOf_at]

theorem outOf_at (c qb : Fin 4) (r : Fin 64) (n : Fin 1024) : outOf m c (ix3 (0 : Fin 1) (qrow qb r) n) = ∑ D : Fin 4, pv m D c qb r n := by
  have e : outOf m c (ix3 (0 : Fin 1) (qrow qb r) n) = PS m c (ix3 c (qrow qb r) n) + (PS m (prv c) (ix3 c (qrow qb r) n) + (PS m (prv (prv c)) (ix3 c (qrow qb r) n) + PS m (prv (prv (prv c))) (ix3 c (qrow qb r) n))) := rfl
  rw [e]
  simp only [PS_at]
  generalize hf : (fun D : Fin 4 => pv m D c qb r n) = f
  have hf' : ∀ D, pv m D c qb r n = f D := fun D => congrFun hf D
  simp only [hf', Fin.sum_univ_four]
  have hc : c = 0 ∨ c = 1 ∨ c = 2 ∨ c = 3 := (by decide : ∀ c : Fin 4, c = 0 ∨ c = 1 ∨ c = 2 ∨ c = 3) c
  have h0 : prv 0 = 3 := by decide
  have h1 : prv 1 = 0 := by decide
  have h2 : prv 2 = 1 := by decide
  have h3 : prv 3 = 2 := by decide
  rcases hc with h | h | h | h <;> simp only [h, h0, h1, h2, h3] <;> abel

end Cert.KernelIdeal.Att
end
-- ==== Proof.Ref.lean ====
module

public import proofs.«01_k».proof.ReferenceIdeal
public import proofs.«01_k».proof.Proof.Gen.ReferenceIdeal.Run
public import Idealize.ShloMosaic.PureOps.Ideal.Laws
public import Idealize.ShloMosaic.Lib.Pointwise
public import Idealize.ShloMosaic.Lib.ValueLayout

/-!
# The reference, step by step

The reference's value as a composition of named steps, and each step read at an index.
-/

@[expose] public section

set_option maxRecDepth 16384

noncomputable section

namespace Cert.ReferenceIdeal.Att

open Idealize.ShloMosaic Idealize.SL.Sem Cert.ReferenceIdeal.Gen
open Idealize.ShloMosaic.TcCoe

/-! ## The steps -/

/-- The number of query blocks of a row, by floor division. -/
def qbV : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The block that a key lies in, by floor division. -/
def kbV : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The divisor of the remainders. -/
def fourV : IVec S_ 32 := select (cmpi .eq (id (constantI S_ 32 4#32)) (constantI S_ 32 0#32)) (constantI S_ 32 1#32) (id (constantI S_ 32 4#32))
/-- The block of a query, modulo four. -/
def qmV : IVec S256x1 32 :=
  select (andi (cmpi .ne (cmpi .slt (Host.remsi (broadcastInDim S256x1 ![0] bcast_S256_S256x1_0 qbV) (broadcastInDim S256x1 ![] bcast_S_S256x1 fourV)) (broadcastInDim S256x1 ![] bcast_S_S256x1 (constantI S_ 32 0#32))) (broadcastInDim S256x1 ![] bcast_S_S256x1 (cmpi .slt fourV (constantI S_ 32 0#32)))) (cmpi .ne (Host.remsi (broadcastInDim S256x1 ![0] bcast_S256_S256x1_0 qbV) (broadcastInDim S256x1 ![] bcast_S_S256x1 fourV)) (broadcastInDim S256x1 ![] bcast_S_S256x1 (constantI S_ 32 0#32)))) (addi (Host.remsi (broadcastInDim S256x1 ![0] bcast_S256_S256x1_0 qbV) (broadcastInDim S256x1 ![] bcast_S_S256x1 fourV)) (broadcastInDim S256x1 ![] bcast_S_S256x1 fourV)) (Host.remsi (broadcastInDim S256x1 ![0] bcast_S256_S256x1_0 qbV) (broadcastInDim S256x1 ![] bcast_S_S256x1 fourV))
/-- The block of a key, modulo four. -/
def kmV : IVec S1x4096 32 :=
  select (andi (cmpi .ne (cmpi .slt (Host.remsi (broadcastInDim S1x4096 ![1] bcast_S4096_S1x4096_1 kbV) (broadcastInDim S1x4096 ![] bcast_S_S1x4096 fourV)) (broadcastInDim S1x4096 ![] bcast_S_S1x4096 (constantI S_ 32 0#32))) (broadcastInDim S1x4096 ![] bcast_S_S1x4096 (cmpi .slt fourV (constantI S_ 32 0#32)))) (cmpi .ne (Host.remsi (broadcastInDim S1x4096 ![1] bcast_S4096_S1x4096_1 kbV) (broadcastInDim S1x4096 ![] bcast_S_S1x4096 fourV)) (broadcastInDim S1x4096 ![] bcast_S_S1x4096 (constantI S_ 32 0#32)))) (addi (Host.remsi (broadcastInDim S1x4096 ![1] bcast_S4096_S1x4096_1 kbV) (broadcastInDim S1x4096 ![] bcast_S_S1x4096 fourV)) (broadcastInDim S1x4096 ![] bcast_S_S1x4096 fourV)) (Host.remsi (broadcastInDim S1x4096 ![1] bcast_S4096_S1x4096_1 kbV) (broadcastInDim S1x4096 ![] bcast_S_S1x4096 fourV))
/-- The mask of the keys that a query attends to. -/
def maskV : IVec S256x4096 1 :=
  ori (cmpi .eq (broadcastInDim S256x4096 ![0, 1] bcast_S256x1_S256x4096_0_1 (broadcastInDim S256x1 ![0] bcast_S256_S256x1_0 qbV)) (broadcastInDim S256x4096 ![0, 1] bcast_S1x4096_S256x4096_0_1 (broadcastInDim S1x4096 ![1] bcast_S4096_S1x4096_1 kbV))) (cmpi .eq (broadcastInDim S256x4096 ![0, 1] bcast_S1x4096_S256x4096_0_1 kmV) (broadcastInDim S256x4096 ![0, 1] bcast_S256x1_S256x4096_0_1 qmV))
/-- The queries, per head. -/
def qryR (X : FVec Ideal S4x256x1024 .f32) (Q : FVec Ideal S1024x4096 .f32) : FVec Ideal S4x256x32x128 .f32 :=
  shapeCast _ (Host.dotGeneral dot_S4x256x1024_S1024x4096_S4x256x4096_2_0_01_1_n_n none X Q) shapeCasts_S4x256x4096_S4x256x32x128
/-- The scaled scores. -/
def scR (X : FVec Ideal S4x256x1024 .f32) (Q : FVec Ideal S1024x4096 .f32) (K : FVec Ideal S4x16x4x64x32x128 .f32) : FVec Ideal S4x32x256x4096 .f32 :=
  mulf (Host.dotGeneral dot_S4x256x32x128_S4x4096x32x128_S4x32x256x4096_3_3_1_1_02_02 none (qryR X Q) (shapeCast _ K shapeCasts_S4x16x4x64x32x128_S4x4096x32x128)) (broadcastInDim S4x32x256x4096 ![] bcast_S_S4x32x256x4096 (constant S_ .f32 0x3DB504F3#32))
/-- The scores with −∞ at the keys left out. -/
def mkR (M : IVec S256x4096 1) (s : FVec Ideal S4x32x256x4096 .f32) : FVec Ideal S4x32x256x4096 .f32 :=
  select (broadcastInDim S4x32x256x4096 ![0, 1, 2, 3] bcast_S1x1x256x4096_S4x32x256x4096_0_1_2_3 (broadcastInDim S1x1x256x4096 ![2, 3] bcast_S256x4096_S1x1x256x4096_2_3 M)) s (broadcastInDim S4x32x256x4096 ![] bcast_S_S4x32x256x4096 (id (constant S_ .f32 0xFF800000#32)))
/-- The weights before they are divided. -/
def wR (s : FVec Ideal S4x32x256x4096 .f32) : FVec Ideal S4x32x256x4096 .f32 :=
  Host.exp (subf s (broadcastInDim S4x32x256x4096 ![0, 1, 2, 3] bcast_S4x32x256x1_S4x32x256x4096_0_1_2_3 (broadcastInDim S4x32x256x1 ![0, 1, 2] bcast_S4x32x256_S4x32x256x1_0_1_2 (Host.reduce FloatOps.maximumf s (constant S_ .f32 0xFF800000#32) reducesTo_S4x32x256x4096_S4x32x256_d3 h_S_))))
/-- The rows that attend to any key. -/
def keepR (M : IVec S256x4096 1) : IVec S256 1 :=
  Host.reduce IntOp.ori M (constantI S_ 1 0#1) reducesTo_S256x4096_S256_d1 h_S_
/-- The sums of the weights. -/
def sumR (kp : IVec S256 1) (w : FVec Ideal S4x32x256x4096 .f32) : FVec Ideal S4x32x256x1 .f32 :=
  select (broadcastInDim S4x32x256x1 ![0, 1, 2, 3] bcast_S1x1x256x1_S4x32x256x1_0_1_2_3 (broadcastInDim S1x1x256x1 ![2] bcast_S256_S1x1x256x1_2 kp)) (broadcastInDim S4x32x256x1 ![0, 1, 2] bcast_S4x32x256_S4x32x256x1_0_1_2 (Host.reduceAdd w (constant S_ .f32 0x00000000#32) reducesTo_S4x32x256x4096_S4x32x256_d3 h_S_)) (broadcastInDim S4x32x256x1 ![] bcast_S_S4x32x256x1 (id (constant S_ .f32 0x3F800000#32)))
/-- The weights. -/
def pR (kp : IVec S256 1) (w : FVec Ideal S4x32x256x4096 .f32) : FVec Ideal S4x32x256x4096 .f32 :=
  select (broadcastInDim S4x32x256x4096 ![0, 1, 2, 3] bcast_S1x1x256x1_S4x32x256x4096_0_1_2_3 (broadcastInDim S1x1x256x1 ![2] bcast_S256_S1x1x256x1_2 kp)) (Host.divf w (broadcastInDim S4x32x256x4096 ![0, 1, 2, 3] bcast_S4x32x256x1_S4x32x256x4096_0_1_2_3 (sumR kp w))) (broadcastInDim S4x32x256x4096 ![] bcast_S_S4x32x256x4096 (id (constant S_ .f32 0x00000000#32)))
/-- The context, all heads in one row. -/
def contR (V : FVec Ideal S4x16x4x64x32x128 .f32) (p : FVec Ideal S4x32x256x4096 .f32) : FVec Ideal S4x256x4096 .f32 :=
  shapeCast _ (transpose S4x256x32x128 [0, 3, 1, 2] (Host.dotGeneral dot_S4x4096x32x128_S4x32x256x4096_S4x32x128x256_1_3_3_2_02_01 none (shapeCast _ V shapeCasts_S4x16x4x64x32x128_S4x4096x32x128) p) transposes_S4x32x128x256_S4x256x32x128_0_3_1_2) shapeCasts_S4x256x32x128_S4x256x4096
/-- The projection. -/
def outR (c : FVec Ideal S4x256x4096 .f32) (O : FVec Ideal S4096x1024 .f32) : FVec Ideal S4x256x1024 .f32 :=
  Host.dotGeneral dot_S4x256x4096_S4096x1024_S4x256x1024_2_0_01_1_n_n none c O

/-- The reference's value is these steps composed. -/
theorem res_eq (m : (ℓ : Loc nD τ sig) → Buf (Elt Ideal) ℓ) (c : Dev nD) :
    Cert.ReferenceIdeal.Value.res_main_v41 m c =
      outR (contR (m ((c.tc : Thread nD τ).loc main_arg3)) (pR (keepR maskV) (wR (mkR maskV (scR (m ((c.tc : Thread nD τ).loc main_arg0)) (m ((c.tc : Thread nD τ).loc main_arg1)) (m ((c.tc : Thread nD τ).loc main_arg2)))))))
        (m ((c.tc : Thread nD τ).loc main_arg4)) := by
  unfold Cert.ReferenceIdeal.Value.res_main_v41
  rfl

end Cert.ReferenceIdeal.Att
end
-- ==== Proof.RefAt.lean ====
module

public import proofs.«01_k».proof.Proof.Ref

/-!
# The reference's steps at an index

What each step of the reference holds at a row, a head and a key.
-/

@[expose] public section

set_option maxRecDepth 16384

noncomputable section

namespace Cert.ReferenceIdeal.Att

open Idealize.ShloMosaic Idealize.SL.Sem Cert.ReferenceIdeal.Gen
open Idealize.ShloMosaic.TcCoe

theorem qryR_at (X : FVec Ideal S4x256x1024 .f32) (Q : FVec Ideal S1024x4096 .f32) (b : Fin 4) (i : Fin 256) (h : Fin 32) (d : Fin 128) :
    qryR X Q (ix4 b i h d) = ∑ k : Fin 1024, X (ix3 b i k) * Q (ix2 k (⟨h.val * 128 + d.val, by omega⟩ : Fin 4096)) := by
  pointwise [qryR, dot_S4x256x1024_S1024x4096_S4x256x4096_2_0_01_1_n_n]

theorem scR_at (X : FVec Ideal S4x256x1024 .f32) (Q : FVec Ideal S1024x4096 .f32) (K : FVec Ideal S4x16x4x64x32x128 .f32) (b : Fin 4) (h : Fin 32) (i : Fin 256) (j : Fin 4096) :
    scR X Q K (ix4 b h i j) = (∑ d : Fin 128, qryR X Q (ix4 b i h d) * K (ix6 b (⟨j.val / 256, by omega⟩ : Fin 16) (⟨j.val / 64 % 4, by omega⟩ : Fin 4) (⟨j.val % 64, by omega⟩ : Fin 64) h d)) * Ideal.ofBits .f32 0x3DB504F3#32 := by
  pointwise [scR, dot_S4x256x32x128_S4x4096x32x128_S4x32x256x4096_3_3_1_1_02_02]

/-- The literal that stands for −∞. -/
theorem neg_inf : Ideal.ofBits .f32 0xFF800000#32 = ⊥ := by
  unfold Ideal.ofBits Ideal.ieee
  simp

theorem mkR_at (M : IVec S256x4096 1) (s : FVec Ideal S4x32x256x4096 .f32) (b : Fin 4) (h : Fin 32) (i : Fin 256) (j : Fin 4096) :
    mkR M s (ix4 b h i j) = if M (ix2 i j) = 1#1 then s (ix4 b h i j) else ⊥ := by
  pointwise [mkR, id]
  rw [neg_inf]
  rfl

theorem wR_at (s : FVec Ideal S4x32x256x4096 .f32) (b : Fin 4) (h : Fin 32) (i : Fin 256) (j : Fin 4096) :
    wR s (ix4 b h i j) = Ideal.exp (s (ix4 b h i j) - Finset.fold max ⊥ (fun k : Fin 4096 => s (ix4 b h i k)) Finset.univ) := by
  pointwise [wR]
  rw [neg_inf]

theorem sumR_at (kp : IVec S256 1) (w : FVec Ideal S4x32x256x4096 .f32) (b : Fin 4) (h : Fin 32) (i : Fin 256) (hk : kp (ix1 i) = 1#1) :
    sumR kp w (ix4 b h i (0 : Fin 1)) = ∑ k : Fin 4096, w (ix4 b h i k) := by
  pointwise [sumR, id, hk]

theorem pR_at (kp : IVec S256 1) (w : FVec Ideal S4x32x256x4096 .f32) (b : Fin 4) (h : Fin 32) (i : Fin 256) (j : Fin 4096) (hk : kp (ix1 i) = 1#1) :
    pR kp w (ix4 b h i j) = Ideal.div (w (ix4 b h i j)) (sumR kp w (ix4 b h i (0 : Fin 1))) := by
  pointwise [pR, id, hk]

theorem contR_at (V : FVec Ideal S4x16x4x64x32x128 .f32) (p : FVec Ideal S4x32x256x4096 .f32) (b : Fin 4) (i : Fin 256) (h : Fin 32) (d : Fin 128) :
    contR V p (ix3 b i (⟨h.val * 128 + d.val, by omega⟩ : Fin 4096)) = ∑ j : Fin 4096, V (ix6 b (⟨j.val / 256, by omega⟩ : Fin 16) (⟨j.val / 64 % 4, by omega⟩ : Fin 4) (⟨j.val % 64, by omega⟩ : Fin 64) h d) * p (ix4 b h i j) := by
  pointwise [contR, dot_S4x4096x32x128_S4x32x256x4096_S4x32x128x256_1_3_3_2_02_01]

theorem outR_at (c : FVec Ideal S4x256x4096 .f32) (O : FVec Ideal S4096x1024 .f32) (b : Fin 4) (i : Fin 256) (n : Fin 1024) :
    outR c O (ix3 b i n) = ∑ k : Fin 4096, c (ix3 b i k) * O (ix2 k n) := by
  pointwise [outR, dot_S4x256x4096_S4096x1024_S4x256x1024_2_0_01_1_n_n]

/-- Floor division by 64, on words. -/
def fdW (x : BitVec 32) : BitVec 32 :=
  Scalar.select
      (IntOp.andi
        (IntOp.cmpi CmpIPredicate.ne (if x = 0 then 0 else if x.msb = true then -1 else 1 : BitVec 32)
          (if (64#32 : BitVec 32) = 0 then 0 else if (64#32 : BitVec 32).msb = true then -1 else 1))
        (IntOp.cmpi CmpIPredicate.ne (IntOp.remsi ArithUnit.host x 64#32) 0#32))
      (IntOp.subi (IntOp.divsi ArithUnit.host x 64#32) 1#32)
      (IntOp.divsi ArithUnit.host x 64#32)
/-- The divisor of the remainders. -/
def four : BitVec 32 := Scalar.select (IntOp.cmpi CmpIPredicate.eq 4#32 0#32) 1#32 4#32
/-- The remainder by four, on words. -/
def rmW (x : BitVec 32) : BitVec 32 :=
  Scalar.select
      (IntOp.andi
        (IntOp.cmpi CmpIPredicate.ne (IntOp.cmpi CmpIPredicate.slt (IntOp.remsi ArithUnit.host x four) 0#32) (IntOp.cmpi CmpIPredicate.slt four 0#32))
        (IntOp.cmpi CmpIPredicate.ne (IntOp.remsi ArithUnit.host x four) 0#32))
      (IntOp.addi (IntOp.remsi ArithUnit.host x four) four)
      (IntOp.remsi ArithUnit.host x four)

theorem fdW_eq : ∀ i : Fin 4096, fdW (BitVec.ofNat 32 i.val) = BitVec.ofNat 32 (i.val / 64) := by decide +kernel
theorem rmW_eq : ∀ i : Fin 64, rmW (BitVec.ofNat 32 i.val) = BitVec.ofNat 32 (i.val % 4) := by decide +kernel
theorem fourV_at : fourV ix0 = four := rfl
/-- The two tests of the mask, of a query's block and a key's. -/
theorem test_eq : ∀ (a : Fin 4) (b : Fin 64), IntOp.ori (IntOp.cmpi CmpIPredicate.eq (BitVec.ofNat 32 a.val) (BitVec.ofNat 32 b.val))
      (IntOp.cmpi CmpIPredicate.eq (BitVec.ofNat 32 (b.val % 4)) (BitVec.ofNat 32 a.val)) = if b.val % 4 = a.val then 1#1 else 0#1 := by
  decide +kernel

theorem qbV_at (i : Fin 256) : qbV (ix1 i) = BitVec.ofNat 32 (i.val / 64) := by
  refine Eq.trans ?_ (fdW_eq ⟨i.val, by omega⟩)
  pointwise [qbV, fdW, id]

theorem kbV_at (i : Fin 4096) : kbV (ix1 i) = BitVec.ofNat 32 (i.val / 64) := by
  refine Eq.trans ?_ (fdW_eq i)
  pointwise [kbV, fdW, id]

theorem keepR_at (M : IVec S256x4096 1) (i : Fin 256) (j : Fin 4096) (h : M (ix2 i j) = 1#1) : keepR M (ix1 i) = 1#1 := by
  pointwise [keepR]
  rw [← Finset.insert_erase (Finset.mem_univ j), Finset.fold_insert (Finset.notMem_erase _ _), h]
  generalize Finset.fold IntOp.ori (0#1) _ _ = x
  exact (by decide : ∀ x : BitVec 1, IntOp.ori 1#1 x = 1#1) x

theorem qmV_at (i : Fin 256) : qmV (ix2 i (0 : Fin 1)) = BitVec.ofNat 32 (i.val / 64) := by
  have e : i.val / 64 % 4 = i.val / 64 := by omega
  refine Eq.trans ?_ ((rmW_eq ⟨i.val / 64, by omega⟩).trans (congrArg _ e))
  pointwise [qmV, qbV_at, rmW, fourV_at]

theorem kmV_at (i : Fin 4096) : kmV (ix2 (0 : Fin 1) i) = BitVec.ofNat 32 (i.val / 64 % 4) := by
  refine Eq.trans ?_ (rmW_eq ⟨i.val / 64, by omega⟩)
  pointwise [kmV, kbV_at, rmW, fourV_at]

theorem maskV_at (i : Fin 256) (j : Fin 4096) : maskV (ix2 i j) = if j.val / 64 % 4 = i.val / 64 then 1#1 else 0#1 := by
  refine Eq.trans ?_ (test_eq ⟨i.val / 64, by omega⟩ ⟨j.val / 64, by omega⟩)
  pointwise [maskV, qbV_at, kbV_at, kmV_at, qmV_at]

end Cert.ReferenceIdeal.Att
end
-- ==== Proof.Soft.lean ====
module

public import Idealize.ShloMosaic.PureOps.Ideal.Laws
public import Idealize.ShloMosaic.Lib.Pointwise

/-!
# Softmax over the extended reals

Weights that are shifted by their maximum and divided by their sum before they are summed against the values, and weights that
are neither shifted nor divided until afterwards, give the same sum where the scores are real. The values are arbitrary.
-/

@[expose] public section

set_option maxRecDepth 16384

noncomputable section

namespace Cert.Soft

open Idealize.ShloMosaic

/-! ## Real sums -/

/-- A value is a real number. -/
def IsReal (x : EReal) : Prop := ∃ r : ℝ, x = (r : EReal)

theorem isReal_coe (r : ℝ) : IsReal (r : EReal) := ⟨r, rfl⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩
theorem isReal_of_abs_lt {x : EReal} (h : max x (-x) < ⊤) : IsReal x := by
  induction x with
  | bot => simp at h
  | coe r => exact ⟨r, rfl⟩
  | top => simp at h

/-- A real factor of every term comes out of a real sum. -/
theorem sum_scale {ι : Type} [Fintype ι] {a b : ι → EReal} {c : EReal} (ha : ∀ i, IsReal (a i)) (hb : ∀ i, IsReal (b i)) (hc : IsReal c) :
    ∑ i, (a i * c) * b i = (∑ i, a i * b i) * c := by
  choose f hf using ha
  choose g hg using hb
  obtain ⟨r, rfl⟩ := hc
  have e1 : ∑ i, (a i * (r : EReal)) * b i = ((∑ i, (f i * r) * g i : ℝ) : EReal) := by
    rw [coe_sum]
    exact Finset.sum_congr rfl fun i _ => by rw [hf, hg, EReal.coe_mul, EReal.coe_mul]
  have e2 : ∑ i, a i * b i = ((∑ i, f i * g i : ℝ) : EReal) := by
    rw [coe_sum]
    exact Finset.sum_congr rfl fun i _ => by rw [hf, hg, EReal.coe_mul]
  rw [e1, e2, ← EReal.coe_mul, Finset.sum_mul]
  congr 1
  exact Finset.sum_congr rfl fun i _ => by ring

/-- A real factor that isn't negative distributes over any sum. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-! ## The keys of one query block -/

/-- Key `t` of query block `qb`, among all the keys: the blocks go round four query blocks. -/
def key (qb : Fin 4) (t : Fin 1024) : Fin 4096 := ⟨t.val / 64 * 256 + qb.val * 64 + t.val % 64, by omega⟩

/-- A sum over all keys of what is zero outside a query block's keys is the sum over those keys. -/
theorem sum_key (qb : Fin 4) (f : Fin 4096 → EReal) (h : ∀ j : Fin 4096, j.val / 64 % 4 ≠ qb.val → f j = 0) :
    ∑ j, f j = ∑ t, f (key qb t) := by
  rw [Fin.sum_univ_tiles 16 256 (by norm_num), Fin.sum_univ_tiles (N := 1024) 16 64 (by norm_num)]
  refine Finset.sum_congr rfl fun n _ => ?_
  rw [Fin.sum_univ_tiles (N := 256) 4 64 (by norm_num), Finset.sum_eq_single qb]
  · refine Finset.sum_congr rfl fun r _ => congrArg f (Fin.ext ?_)
    simp only [key]
    omega
  · intro q _ hq
    refine Finset.sum_eq_zero fun r _ => h _ ?_
    have : q.val ≠ qb.val := fun e => hq (Fin.ext e)
    simp only
    omega
  · intro hq
    exact absurd (Finset.mem_univ _) hq

/-! ## The two softmaxes -/

/-- The reference's context at one row: scores that are real at the keys of query block `qb` and −∞ elsewhere. The kernel's: the
    same scores at those keys alone, neither shifted nor divided first. -/
theorem softmax_eq (qb : Fin 4) (s : Fin 4096 → EReal) (v : Fin 4096 → EReal)
    (hin : ∀ t, IsReal (s (key qb t))) (hout : ∀ j : Fin 4096, j.val / 64 % 4 ≠ qb.val → s j = ⊥) :
    (∑ t, Ideal.exp (s (key qb t)) * v (key qb t)) * Ideal.div 1 (∑ t, Ideal.exp (s (key qb t))) =
      ∑ j, v j * Ideal.div (Ideal.exp (s j - Finset.fold max ⊥ s Finset.univ)) (∑ k, Ideal.exp (s k - Finset.fold max ⊥ s Finset.univ)) := by
  choose r hr using hin
  have hM : ∃ μ : ℝ, Finset.fold max ⊥ s Finset.univ = (μ : EReal) := by
    have h1 : Finset.fold max ⊥ s Finset.univ < ⊤ := by
      rw [Finset.fold_max_lt]
      refine ⟨bot_lt_top, fun j _ => ?_⟩
      by_cases hj : j.val / 64 % 4 = qb.val
      · have e : j = key qb ⟨j.val / 256 * 64 + j.val % 64, by omega⟩ := Fin.ext (by simp only [key]; omega)
        rw [e, hr]
        exact EReal.coe_lt_top _
      · rw [hout j hj]
        exact bot_lt_top
    have h2 : ⊥ < Finset.fold max ⊥ s Finset.univ := by
      rw [Finset.lt_fold_max]
      exact Or.inr ⟨key qb 0, Finset.mem_univ _, by rw [hr]; exact EReal.bot_lt_coe _⟩
    exact ⟨(Finset.fold max ⊥ s Finset.univ).toReal, (EReal.coe_toReal h1.ne h2.ne').symm⟩
  obtain ⟨μ, hμ⟩ := hM
  rw [hμ]
  have w0 : ∀ j : Fin 4096, j.val / 64 % 4 ≠ qb.val → Ideal.exp (s j - (μ : EReal)) = 0 := by
    intro j hj
    rw [hout j hj]
    rw [sub_eq_add_neg, EReal.bot_add]
    rfl
  have w1 : ∀ t, Ideal.exp (s (key qb t) - (μ : EReal)) = ((Real.exp (r t - μ) : ℝ) : EReal) := by
    intro t
    rw [hr, ← EReal.coe_sub]
    rfl
  have e1 : ∀ t, Ideal.exp (s (key qb t)) = ((Real.exp (r t) : ℝ) : EReal) := by
    intro t
    rw [hr]
    rfl
  have z' : ∑ k, Ideal.exp (s k - (μ : EReal)) = ((∑ t, Real.exp (r t - μ) : ℝ) : EReal) := by
    rw [sum_key qb _ w0, coe_sum]
    exact Finset.sum_congr rfl fun t _ => w1 t
  have z : ∑ t, Ideal.exp (s (key qb t)) = ((∑ t, Real.exp (r t) : ℝ) : EReal) := by
    rw [coe_sum]
    exact Finset.sum_congr rfl fun t _ => e1 t
  have pz : 0 < ∑ t : Fin 1024, Real.exp (r t) := Finset.sum_pos (fun t _ => Real.exp_pos _) ⟨0, Finset.mem_univ _⟩
  have pz' : 0 < ∑ t : Fin 1024, Real.exp (r t - μ) := Finset.sum_pos (fun t _ => Real.exp_pos _) ⟨0, Finset.mem_univ _⟩
  have hz' : ∑ t : Fin 1024, Real.exp (r t - μ) = (∑ t, Real.exp (r t)) * Real.exp (-μ) := by
    rw [Finset.sum_mul]
    exact Finset.sum_congr rfl fun t _ => by rw [← Real.exp_add, sub_eq_add_neg]
  rw [z', z, Ideal.div_coe pz.ne', one_mul, sum_mul_coe _ _ (by positivity)]
  rw [sum_key qb]
  · refine Finset.sum_congr rfl fun t _ => ?_
    rw [w1, e1, Ideal.div_coe pz'.ne', ← EReal.coe_mul, mul_comm (((Real.exp (r t) : ℝ) : EReal)), mul_assoc, ← EReal.coe_mul]
    congr 2
    rw [hz', sub_eq_add_neg, Real.exp_add]
    have := Real.exp_pos (-μ)
    field_simp
  · intro j hj
    rw [w0 j hj, Ideal.div_coe pz'.ne', zero_mul, mul_zero]

end Cert.Soft
end
-- ==== Proof.Equal.lean ====
module

public import proofs.«01_k».proof.Proof.KernOut
public import proofs.«01_k».proof.Proof.RefAt
public import proofs.«01_k».proof.Proof.Soft

/-!
# The kernel's result is the reference's

Each device's heads are eight of the reference's, the keys that a query block attends to are those that the reference's mask
leaves, and the sum round the ring is the reference's sum over all heads.
-/

@[expose] public section

set_option maxRecDepth 16384

noncomputable section

namespace Cert.KernelIdeal.Att

open Idealize.ShloMosaic Idealize.SL.Sem Cert.KernelIdeal.Gen
open Idealize.ShloMosaic.TcCoe
open Cert.Soft Cert.ReferenceIdeal.Att

variable (m : (ℓ : Loc nD τ sig) → Buf (Elt Ideal) ℓ)
variable (X : FVec Ideal S4x256x1024 .f32) (Q : FVec Ideal Cert.ReferenceIdeal.S1024x4096 .f32) (K V : FVec Ideal S4x16x4x64x32x128 .f32)
  (O : FVec Ideal Cert.ReferenceIdeal.S4096x1024 .f32)

/-- The devices hold their blocks of the reference's arrays, and the entries that the scores are made of are real. -/
structure Same : Prop where
  hX : ∀ (c : Dev nD) (i : Fin 256) (k : Fin 1024), gX m c (ix3 (0 : Fin 1) i k) = X (ix3 c i k)
  hQ : ∀ (c : Dev nD) (k n : Fin 1024), gQ m c (ix2 k n) = Q (ix2 k (⟨c.val * 1024 + n.val, by have := c.isLt; change c.val < 4 at this; omega⟩ : Fin 4096))
  hK : ∀ c : Dev nD, gK m c = K
  hV : ∀ c : Dev nD, gV m c = V
  hO : ∀ (c : Dev nD) (k n : Fin 1024), gO m c (ix2 k n) = O (ix2 (⟨c.val * 1024 + k.val, by have := c.isLt; change c.val < 4 at this; omega⟩ : Fin 4096) n)
  fX : ∀ (c : Dev nD) (i : Fin 256) (k : Fin 1024), IsReal (gX m c (ix3 (0 : Fin 1) i k))
  fQ : ∀ (c : Dev nD) (k n : Fin 1024), IsReal (gQ m c (ix2 k n))
  fK : ∀ (c : Dev nD) (b : Fin 4) (s : Fin 16) (q : Fin 4) (r : Fin 64) (h : Fin 32) (d : Fin 128), IsReal (gK m c (ix6 b s q r h d))

/-- Head `h` of device `c`, among all the heads. -/
def hdOf (c : Fin 4) (h : Fin 8) : Fin 32 := ⟨8 * c.val + h.val, by omega⟩

theorem isReal_scl : IsReal scl := by
  unfold scl Ideal.ofBits Ideal.ieee
  simp
  exact isReal_coe _

variable {m X Q K V O}

theorem Same.qryR_eq (S : Same m X Q K V O) (c b : Fin 4) (i : Fin 256) (h : Fin 8) (d : Fin 128) :
    qryR X Q (ix4 b i (hdOf c h) d) = ∑ k : Fin 1024, gX m b (ix3 (0 : Fin 1) i k) * gQ m c (ix2 k (hcol h d)) := by
  rw [qryR_at]
  refine Finset.sum_congr rfl fun k _ => ?_
  rw [S.hX, S.hQ]
  congr 3
  apply Fin.ext
  simp only [hdOf, hcol]
  omega

theorem Same.real_q (S : Same m X Q K V O) (c b : Fin 4) (i : Fin 256) (h : Fin 8) (d : Fin 128) :
    IsReal (qryR X Q (ix4 b i (hdOf c h) d)) := by
  rw [S.qryR_eq c]
  exact IsReal.sum fun k => (S.fX _ _ _).mul (S.fQ _ _ _)

theorem Same.sv_eq (S : Same m X Q K V O) (c b qb : Fin 4) (r : Fin 64) (h : Fin 8) (t : Fin 1024) :
    sv m c b qb r h t = scR X Q K (ix4 b (hdOf c h) (qrow qb r) (key qb t)) := by
  rw [scR_at]
  have e : ∀ d : Fin 128, K (ix6 b (⟨(key qb t).val / 256, by omega⟩ : Fin 16) (⟨(key qb t).val / 64 % 4, by omega⟩ : Fin 4) (⟨(key qb t).val % 64, by omega⟩ : Fin 64) (hdOf c h) d)
      = kv m c b qb t h d := by
    intro d
    unfold kv
    rw [S.hK]
    have e1 : (⟨(key qb t).val / 256, by omega⟩ : Fin 16) = ⟨t.val / 64, by omega⟩ := Fin.ext (by simp only [key]; omega)
    have e2 : (⟨(key qb t).val / 64 % 4, by omega⟩ : Fin 4) = qb := Fin.ext (by simp only [key]; omega)
    have e3 : (⟨(key qb t).val % 64, by omega⟩ : Fin 64) = ⟨t.val % 64, by omega⟩ := Fin.ext (by simp only [key]; omega)
    rw [e1, e2, e3]
    rfl
  simp only [e]
  have hk : ∀ d, IsReal (kv m c b qb t h d) := fun d => S.fK _ _ _ _ _ _ _
  refine Eq.trans ?_ (sum_scale (fun d => S.real_q c b (qrow qb r) h d) hk isReal_scl)
  unfold sv
  refine Finset.sum_congr rfl fun d _ => ?_
  rw [S.qryR_eq c]
  rfl

theorem Same.real_s (S : Same m X Q K V O) (c b qb : Fin 4) (r : Fin 64) (h : Fin 8) (t : Fin 1024) :
    IsReal (sv m c b qb r h t) := by
  unfold sv
  refine IsReal.sum fun d => IsReal.mul ?_ (S.fK _ _ _ _ _ _ _)
  unfold qv
  exact (IsReal.sum fun k => (S.fX _ _ _).mul (S.fQ _ _ _)).mul isReal_scl

theorem qrow_div (qb : Fin 4) (r : Fin 64) : (qrow qb r).val / 64 = qb.val := by
  simp only [qrow]
  omega
theorem key_mod (qb : Fin 4) (t : Fin 1024) : (key qb t).val / 64 % 4 = qb.val := by
  simp only [key]
  omega

/-- The scores with −∞ outside the mask. -/
theorem mk_at (s : FVec Ideal Cert.ReferenceIdeal.S4x32x256x4096 .f32) (b qb : Fin 4) (H : Fin 32) (r : Fin 64) (j : Fin 4096) :
    mkR maskV s (ix4 b H (qrow qb r) j) = if j.val / 64 % 4 = qb.val then s (ix4 b H (qrow qb r) j) else ⊥ := by
  rw [mkR_at, maskV_at, qrow_div]
  by_cases h : j.val / 64 % 4 = qb.val
  · rw [if_pos h, if_pos rfl, if_pos h]
  · rw [if_neg h, if_neg (by decide), if_neg h]

theorem keep_at (qb : Fin 4) (r : Fin 64) : keepR maskV (ix1 (qrow qb r)) = 1#1 := by
  refine keepR_at maskV (qrow qb r) (key qb 0) ?_
  rw [maskV_at, qrow_div, key_mod, if_pos rfl]

/-- The context of a head, a row and an entry: the kernel's is the reference's. -/
theorem Same.cv_eq (S : Same m X Q K V O) (c b qb : Fin 4) (r : Fin 64) (h : Fin 8) (d : Fin 128) :
    cv m c b qb r h d = contR V (pR (keepR maskV) (wR (mkR maskV (scR X Q K)))) (ix3 b (qrow qb r) (⟨(hdOf c h).val * 128 + d.val, by omega⟩ : Fin 4096)) := by
  rw [contR_at]
  simp only [pR_at _ _ _ _ _ _ (keep_at qb r), sumR_at _ _ _ _ _ (keep_at qb r), wR_at]
  generalize hs : (fun j : Fin 4096 => mkR maskV (scR X Q K) (ix4 b (hdOf c h) (qrow qb r) j)) = s
  have hs' : ∀ j : Fin 4096, mkR maskV (scR X Q K) (ix4 b (hdOf c h) (qrow qb r) j) = s j := fun j => congrFun hs j
  simp only [hs']
  generalize hv : (fun j : Fin 4096 => V (ix6 b (⟨j.val / 256, by omega⟩ : Fin 16) (⟨j.val / 64 % 4, by omega⟩ : Fin 4) (⟨j.val % 64, by omega⟩ : Fin 64) (hdOf c h) d)) = v
  have hv' : ∀ j : Fin 4096, V (ix6 b (⟨j.val / 256, by omega⟩ : Fin 16) (⟨j.val / 64 % 4, by omega⟩ : Fin 4) (⟨j.val % 64, by omega⟩ : Fin 64) (hdOf c h) d) = v j := fun j => congrFun hv j
  simp only [hv']
  have es : ∀ t, sv m c b qb r h t = s (key qb t) := by
    intro t
    rw [← hs', mk_at, if_pos (key_mod qb t)]
    exact S.sv_eq c b qb r h t
  have ev : ∀ t, vv m c b qb t h d = v (key qb t) := by
    intro t
    rw [← hv']
    unfold vv
    rw [S.hV]
    have e1 : (⟨(key qb t).val / 256, by omega⟩ : Fin 16) = ⟨t.val / 64, by omega⟩ := Fin.ext (by simp only [key]; omega)
    have e2 : (⟨(key qb t).val / 64 % 4, by omega⟩ : Fin 4) = qb := Fin.ext (by simp only [key]; omega)
    have e3 : (⟨(key qb t).val % 64, by omega⟩ : Fin 64) = ⟨t.val % 64, by omega⟩ := Fin.ext (by simp only [key]; omega)
    rw [e1, e2, e3]
    rfl
  unfold cv
  simp only [es, ev]
  refine softmax_eq qb s v (fun t => ?_) (fun j hj => ?_)
  · rw [← es]
    exact S.real_s c b qb r h t
  · rw [← hs', mk_at, if_neg hj]

/-- The result of device `c` at a row and a column is the reference's at batch `c`. -/
theorem Same.out_eq (S : Same m X Q K V O) (c qb : Fin 4) (r : Fin 64) (n : Fin 1024) :
    outOf m c (ix3 (0 : Fin 1) (qrow qb r) n) = outR (contR V (pR (keepR maskV) (wR (mkR maskV (scR X Q K))))) O (ix3 c (qrow qb r) n) := by
  rw [outOf_at, outR_at, Fin.sum_univ_tiles (N := 4096) 32 128 (by norm_num), Fin.sum_univ_tiles (N := 32) 4 8 (by norm_num)]
  refine Finset.sum_congr rfl fun D _ => Finset.sum_congr rfl fun h _ => Finset.sum_congr rfl fun d _ => ?_
  rw [S.cv_eq, S.hO]
  congr 3
  · apply Fin.ext
    simp only [hdOf]
    omega
  · apply Fin.ext
    simp only [hcol]
    omega

end Cert.KernelIdeal.Att
end
-- ==== Proof.Pre.lean ====
module

public import proofs.«01_k».proof.Defs
public import proofs.«01_k».proof.Proof.Equal
public import Idealize.ShloMosaic.Lib.ReduceAll

/-!
# What the precondition says, and the equation of the two programs

The precondition, read at an entry: the inputs, the query weights and the keys are real. With it and the blocks that the devices
hold, each device's result is its block of the reference's.
-/

@[expose] public section

set_option maxRecDepth 16384

noncomputable section

namespace Cert.KernelIdeal.Att

open Idealize.ShloMosaic Idealize.SL.Sem Cert.KernelIdeal.Gen
open Idealize.ShloMosaic.TcCoe
open Cert.Soft Cert.ReferenceIdeal.Att

/-- The side conditions of the precondition, as the kernel's devices read it. -/
theorem preFacts : Cert.Pre_finite_scores_KernelIdeal.Facts where
  bcast_S_S1x256x1024 := by decide +kernel
  reducesTo_S1x256x1024_S_d0_1_2 := by decide +kernel
  h_S_ := by decide +kernel
  bcast_S_S1024x1024 := by decide +kernel
  reducesTo_S1024x1024_S_d0_1 := by decide +kernel
  bcast_S_S4x16x4x64x32x128 := by decide +kernel
  reducesTo_S4x16x4x64x32x128_S_d0_1_2_3_4_5 := by decide +kernel

/-- And as the reference's device reads it. -/
theorem preFactsR : Cert.Pre_finite_scores_ReferenceIdeal.Facts where
  bcast_S_S4x256x1024 := by decide +kernel
  reducesTo_S4x256x1024_S_d0_1_2 := by decide +kernel
  h_S_ := by decide +kernel
  bcast_S_S1024x4096 := by decide +kernel
  reducesTo_S1024x4096_S_d0_1 := by decide +kernel
  bcast_S_S4x16x4x64x32x128 := by decide +kernel
  reducesTo_S4x16x4x64x32x128_S_d0_1_2_3_4_5 := by decide +kernel

/-- The literal that stands for ∞. -/
theorem pos_inf : Ideal.ofBits .f32 0x7F800000#32 = ⊤ := by
  unfold Ideal.ofBits Ideal.ieee
  simp

/-- An entry that is smaller than ∞ in magnitude is real. -/
theorem real_of_cmp {s : Shape} (x : FVec Ideal s .f32) (y : FVec Ideal s .f32) (i : s.Idx) (hy : y i = ⊤)
    (h : cmpf .olt (Host.absf x) y i = 1#1) : IsReal (x i) := by
  have h' : Ideal.cmp .olt (max (x i) (-(x i))) (y i) = 1#1 := h
  rw [hy] at h'
  refine isReal_of_abs_lt ?_
  by_contra hn
  simp [Ideal.cmp, hn] at h'

/-- What the precondition says of one device's blocks. -/
theorem real_of_pre [Cert.Pre_finite_scores_KernelIdeal.Facts] (a0 : FVec Ideal S1x256x1024 .f32) (a1 : FVec Ideal S1024x1024 .f32)
    (a2 a3 : FVec Ideal S4x16x4x64x32x128 .f32) (a4 : FVec Ideal S1024x1024 .f32)
    (h : Cert.Pre_finite_scores_KernelIdeal.fn (F := Ideal) a0 a1 a2 a3 a4 = fun _ => 1#1) :
    (∀ i, IsReal (a0 i)) ∧ (∀ i, IsReal (a1 i)) ∧ (∀ i, IsReal (a2 i)) := by
  have h0 := congrFun h ix0
  unfold Cert.Pre_finite_scores_KernelIdeal.fn at h0
  obtain ⟨h01, h2⟩ := IntOp.andi_eq_one.1 h0
  obtain ⟨h0, h1⟩ := IntOp.andi_eq_one.1 h01
  haveI : Subsingleton Cert.Pre_finite_scores_KernelIdeal.S_.Idx := ⟨fun a b => funext fun k => k.elim0⟩
  exact ⟨fun i => real_of_cmp a0 _ i pos_inf (Host.reduce_andi_all _ _ _ _ _ h0 i),
    fun i => real_of_cmp a1 _ i pos_inf (Host.reduce_andi_all _ _ _ _ _ h1 i),
    fun i => real_of_cmp a2 _ i pos_inf (Host.reduce_andi_all _ _ _ _ _ h2 i)⟩

/-! ## Blocks -/

theorem blk0 (f : FVec Ideal S4x256x1024 .f32) (c : Fin 4) (i : Fin 256) (k : Fin 1024) :
    Layout.block ⟨3, ![1, 256, 1024]⟩ ⟨3, ![4, 256, 1024]⟩ 0 4 c f (by decide) (ix3 (0 : Fin 1) i k) = f (ix3 c i k) := by
  rw [Layout.block_apply]
  congr 1
  funext a
  apply Fin.ext
  rw [Layout.Tiles.idx_val]
  fin_cases a
  · show (if (0 : ℕ) = 0 then c.val * 1 + 0 else 0) = c.val
    simp
  · rfl
  · rfl

theorem blk1 (f : FVec Ideal Cert.ReferenceIdeal.S1024x4096 .f32) (c : Fin 4) (k n : Fin 1024) :
    Layout.block ⟨2, ![1024, 1024]⟩ ⟨2, ![1024, 4096]⟩ 1 4 c f (by decide) (ix2 k n) = f (ix2 k (⟨c.val * 1024 + n.val, by omega⟩ : Fin 4096)) := by
  rw [Layout.block_apply]
  congr 1
  funext a
  apply Fin.ext
  rw [Layout.Tiles.idx_val]
  fin_cases a
  · rfl
  · rfl

theorem blk4 (f : FVec Ideal Cert.ReferenceIdeal.S4096x1024 .f32) (c : Fin 4) (k n : Fin 1024) :
    Layout.block ⟨2, ![1024, 1024]⟩ ⟨2, ![4096, 1024]⟩ 0 4 c f (by decide) (ix2 k n) = f (ix2 (⟨c.val * 1024 + k.val, by omega⟩ : Fin 4096) n) := by
  rw [Layout.block_apply]
  congr 1
  funext a
  apply Fin.ext
  rw [Layout.Tiles.idx_val]
  fin_cases a
  · rfl
  · rfl

/-! ## The equation -/

/-- Each device's result is its block of what the reference computes. -/
theorem out_block [Cert.Pre_finite_scores_KernelIdeal.Facts] (m : (ℓ : Loc nD τ sig) → Buf (Elt Ideal) ℓ)
    (X : FVec Ideal S4x256x1024 .f32) (Q : FVec Ideal Cert.ReferenceIdeal.S1024x4096 .f32) (K V : FVec Ideal S4x16x4x64x32x128 .f32)
    (O : FVec Ideal Cert.ReferenceIdeal.S4096x1024 .f32)
    (hp : ∀ c : Dev nD, Cert.Pre_finite_scores_KernelIdeal.fn (F := Ideal) (gX m c) (gQ m c) (gK m c) (gV m c) (gO m c) = fun _ => 1#1)
    (hX : ∀ c : Dev nD, gX m c = Layout.block ⟨3, ![1, 256, 1024]⟩ ⟨3, ![4, 256, 1024]⟩ 0 4 c X)
    (hQ : ∀ c : Dev nD, gQ m c = Layout.block ⟨2, ![1024, 1024]⟩ ⟨2, ![1024, 4096]⟩ 1 4 c Q)
    (hK : ∀ c : Dev nD, gK m c = K) (hV : ∀ c : Dev nD, gV m c = V)
    (hO : ∀ c : Dev nD, gO m c = Layout.block ⟨2, ![1024, 1024]⟩ ⟨2, ![4096, 1024]⟩ 0 4 c O) (c : Dev nD) :
    outOf m c = Layout.block ⟨3, ![1, 256, 1024]⟩ ⟨3, ![4, 256, 1024]⟩ 0 4 c (outR (contR V (pR (keepR maskV) (wR (mkR maskV (scR X Q K))))) O) := by
  have S : Same m X Q K V O :=
    { hX := fun c i k => by rw [hX]; exact blk0 X c i k
      hQ := fun c k n => by rw [hQ]; exact blk1 Q c k n
      hK := hK
      hV := hV
      hO := fun c k n => by rw [hO]; exact blk4 O c k n
      fX := fun c i k => (real_of_pre _ _ _ _ _ (hp c)).1 _
      fQ := fun c k n => (real_of_pre _ _ _ _ _ (hp c)).2.1 _
      fK := fun c b s q r h d => (real_of_pre _ _ _ _ _ (hp c)).2.2 _ }
  funext j
  have l0 : (j 0).val < 1 := (j 0).isLt
  have l1 : (j 1).val < 256 := (j 1).isLt
  have ej : j = ix3 (0 : Fin 1) (qrow ⟨(j 1).val / 64, by omega⟩ ⟨(j 1).val % 64, Nat.mod_lt _ (by omega)⟩) (j 2 : Fin 1024) := by
    funext a
    apply Fin.ext
    fin_cases a
    · show (j 0).val = 0
      omega
    · show (j 1).val = 64 * ((j 1).val / 64) + (j 1).val % 64
      omega
    · rfl
  rw [ej]
  exact (S.out_eq c _ _ _).trans (blk0 _ c _ _).symm

end Cert.KernelIdeal.Att
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Pre
public import proofs.«01_k».proof.Proof.Bits.Run

/-!
# The certificate

The frames of the kernel at both float instances are the run of `Proof/Run.lean` (for the kernel as printed, of its twin
under `Proof/Bits`), and the reference's is its operations' run. The value of the kernel is the reference's by the equation of
`Proof/Pre.lean`.
-/

@[expose] public section

noncomputable section

namespace Cert.Proof

open Idealize.ShloMosaic Idealize.SL.Sem

/-- The kernel as printed ends, its arguments as they were and its counters at zero. -/
theorem frame_k : Cert.quiescent_Kernel (hKernel := Cert.Kernel.Gen.facts) := fun m g _ => Cert.Kernel.Att.run_frame (F := Bits) m g

/-- So does the kernel over the extended reals. -/
theorem frame_ki : Cert.quiescent_KernelIdeal (hKernelIdeal := Cert.KernelIdeal.Gen.facts) := fun m g _ => Cert.KernelIdeal.Att.run_frame (F := Ideal) m g

/-- So does the reference, which has no counter. -/
theorem frame_r : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's frame, where the precondition holds too. -/
theorem frame_ki_pre : Cert.quiescent_KernelIdeal_pre_finite_scores_KernelIdeal (hKernelIdeal := Cert.KernelIdeal.Gen.facts)
    (hPre_finite_scores_KernelIdeal := Cert.KernelIdeal.Att.preFacts) := fun m g _ => Cert.KernelIdeal.Att.run_frame (F := Ideal) m g

/-- The reference's frame, where the precondition holds too. -/
theorem frame_r_pre : Cert.quiescent_ReferenceIdeal_pre_finite_scores_ReferenceIdeal (hReferenceIdeal := Cert.ReferenceIdeal.Gen.facts)
    (hPre_finite_scores_ReferenceIdeal := Cert.KernelIdeal.Att.preFactsR) := fun m g _ => frame_r m g trivial

/-- Each device's result is its block of the reference's result. -/
theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.KernelIdeal.Att.preFacts) := by
  intro m g m' g' hp hm
  letI := Cert.KernelIdeal.Att.preFacts
  refine ⟨Cert.ReferenceIdeal.Value.res_main_v41 m' 0, ?_, ?_⟩
  · refine (θ_run Cert.KernelIdeal.defs _ _).mono (fun r h c => ?_) (Cert.KernelIdeal.Att.run_main (F := Ideal) m g)
    refine ⟨(h.1 c).1.trans ?_, (h.1 c).2⟩
    rw [Cert.ReferenceIdeal.Att.res_eq]
    exact Cert.KernelIdeal.Att.out_block m _ _ _ _ _ hp (fun c => (hm c).1) (fun c => (hm c).2.1) (fun c => (hm c).2.2.1)
      (fun c => (hm c).2.2.2.1) (fun c => (hm c).2.2.2.2) c
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.KernelIdeal.Att.preFacts, Cert.KernelIdeal.Att.preFactsR,
    frame_k, frame_ki, frame_ki_pre, frame_r, frame_r_pre, trivial, value⟩

end Cert.Proof

end
